-- ==== Defs.lean ====
def Pre_Encode (m : (ℓ : Loc Cert.Encode.nD Cert.Encode.τ Cert.Encode.sig) → Buf (Elt Bits) ℓ) : Prop :=
  True

def Pre_EncodeIdeal (m : (ℓ : Loc Cert.EncodeIdeal.nD Cert.EncodeIdeal.τ Cert.EncodeIdeal.sig) → Buf (Elt Ideal) ℓ) : Prop :=
  True

def Pre_EncodeRefIdeal (m : (ℓ : Loc Cert.EncodeRefIdeal.nD Cert.EncodeRefIdeal.τ Cert.EncodeRefIdeal.sig) → Buf (Elt Ideal) ℓ) : Prop :=
  True

def Pre_Rank (m : (ℓ : Loc Cert.Rank.nD Cert.Rank.τ Cert.Rank.sig) → Buf (Elt Bits) ℓ) : Prop :=
  True

def Pre_RankIdeal (m : (ℓ : Loc Cert.RankIdeal.nD Cert.RankIdeal.τ Cert.RankIdeal.sig) → Buf (Elt Ideal) ℓ) : Prop :=
  True

def Pre_RankRefIdeal (m : (ℓ : Loc Cert.RankRefIdeal.nD Cert.RankRefIdeal.τ Cert.RankRefIdeal.sig) → Buf (Elt Ideal) ℓ) : Prop :=
  True

def Pre_Pick [hPre_idx_names_labels : Cert.Pre_idx_names_labels.Facts] (m : (ℓ : Loc Cert.Pick.nD Cert.Pick.τ Cert.Pick.sig) → Buf (Elt Bits) ℓ) : Prop :=
  ∀ c : Dev Cert.Pick.nD,
    (Cert.Pre_idx_names_labels.fn (F := Bits) (m ((c.tc : Thread Cert.Pick.nD Cert.Pick.τ).loc Cert.Pick.main_arg0)) (m ((c.tc : Thread Cert.Pick.nD Cert.Pick.τ).loc Cert.Pick.main_arg1))) = (fun _ => 1#1)

def Pre_PickIdeal [hPre_idx_names_labels : Cert.Pre_idx_names_labels.Facts] (m : (ℓ : Loc Cert.PickIdeal.nD Cert.PickIdeal.τ Cert.PickIdeal.sig) → Buf (Elt Ideal) ℓ) : Prop :=
  ∀ c : Dev Cert.PickIdeal.nD,
    (Cert.Pre_idx_names_labels.fn (F := Ideal) (m ((c.tc : Thread Cert.PickIdeal.nD Cert.PickIdeal.τ).loc Cert.PickIdeal.main_arg0)) (m ((c.tc : Thread Cert.PickIdeal.nD Cert.PickIdeal.τ).loc Cert.PickIdeal.main_arg1))) = (fun _ => 1#1)

def Pre_PickRefIdeal (m : (ℓ : Loc Cert.PickRefIdeal.nD Cert.PickRefIdeal.τ Cert.PickRefIdeal.sig) → Buf (Elt Ideal) ℓ) : Prop :=
  True

def Pre_PickRefIdeal_idx_names_labels [hPre_idx_names_labels : Cert.Pre_idx_names_labels.Facts] (m : (ℓ : Loc Cert.PickRefIdeal.nD Cert.PickRefIdeal.τ Cert.PickRefIdeal.sig) → Buf (Elt Ideal) ℓ) : Prop :=
  ∀ c : Dev Cert.PickRefIdeal.nD,
    (Cert.Pre_idx_names_labels.fn (F := Ideal) (m ((c.tc : Thread Cert.PickRefIdeal.nD Cert.PickRefIdeal.τ).loc Cert.PickRefIdeal.main_arg0)) (m ((c.tc : Thread Cert.PickRefIdeal.nD Cert.PickRefIdeal.τ).loc Cert.PickRefIdeal.main_arg1))) = (fun _ => 1#1)

def quiescent_Encode [hEncode : Cert.Encode.Facts] : Prop :=
  ∀ (m : (ℓ : Loc Cert.Encode.nD Cert.Encode.τ Cert.Encode.sig) → Buf (Elt Bits) ℓ) (g : Dev Cert.Encode.nD → PrngReg), Pre_Encode m →
    θ_run (Cert.Encode.defs (F := Bits)) (onTc (τ := Cert.Encode.τ) (Cert.Encode.main (F := Bits))) ⟨m, fun _ => 0, g⟩ (fun r => (∀ c : Dev Cert.Encode.nD,
      r.2.mem ((c.tc : Thread Cert.Encode.nD Cert.Encode.τ).loc Cert.Encode.main_arg0) = m ((c.tc : Thread Cert.Encode.nD Cert.Encode.τ).loc Cert.Encode.main_arg0)
      ∧ r.2.mem ((c.tc : Thread Cert.Encode.nD Cert.Encode.τ).loc Cert.Encode.main_arg1) = m ((c.tc : Thread Cert.Encode.nD Cert.Encode.τ).loc Cert.Encode.main_arg1)
      ∧ r.2.mem ((c.tc : Thread Cert.Encode.nD Cert.Encode.τ).loc Cert.Encode.main_arg2) = m ((c.tc : Thread Cert.Encode.nD Cert.Encode.τ).loc Cert.Encode.main_arg2)
      ∧ r.2.mem ((c.tc : Thread Cert.Encode.nD Cert.Encode.τ).loc Cert.Encode.main_arg3) = m ((c.tc : Thread Cert.Encode.nD Cert.Encode.τ).loc Cert.Encode.main_arg3)
      ∧ r.2.mem ((c.tc : Thread Cert.Encode.nD Cert.Encode.τ).loc Cert.Encode.main_arg4) = m ((c.tc : Thread Cert.Encode.nD Cert.Encode.τ).loc Cert.Encode.main_arg4)
      ∧ r.2.mem ((c.tc : Thread Cert.Encode.nD Cert.Encode.τ).loc Cert.Encode.main_arg5) = m ((c.tc : Thread Cert.Encode.nD Cert.Encode.τ).loc Cert.Encode.main_arg5)
      ∧ r.2.mem ((c.tc : Thread Cert.Encode.nD Cert.Encode.τ).loc Cert.Encode.main_arg6) = m ((c.tc : Thread Cert.Encode.nD Cert.Encode.τ).loc Cert.Encode.main_arg6)
      ∧ r.2.mem ((c.tc : Thread Cert.Encode.nD Cert.Encode.τ).loc Cert.Encode.main_arg7) = m ((c.tc : Thread Cert.Encode.nD Cert.Encode.τ).loc Cert.Encode.main_arg7)
      ∧ r.2.mem ((c.tc : Thread Cert.Encode.nD Cert.Encode.τ).loc Cert.Encode.main_arg8) = m ((c.tc : Thread Cert.Encode.nD Cert.Encode.τ).loc Cert.Encode.main_arg8)
      ∧ r.2.mem ((c.tc : Thread Cert.Encode.nD Cert.Encode.τ).loc Cert.Encode.main_arg9) = m ((c.tc : Thread Cert.Encode.nD Cert.Encode.τ).loc Cert.Encode.main_arg9)
      ∧ r.2.mem ((c.tc : Thread Cert.Encode.nD Cert.Encode.τ).loc Cert.Encode.main_arg10) = m ((c.tc : Thread Cert.Encode.nD Cert.Encode.τ).loc Cert.Encode.main_arg10)
      ∧ r.2.mem ((c.tc : Thread Cert.Encode.nD Cert.Encode.τ).loc Cert.Encode.main_arg11) = m ((c.tc : Thread Cert.Encode.nD Cert.Encode.τ).loc Cert.Encode.main_arg11))
      ∧ r.2.sem = fun _ => 0)

def quiescent_EncodeIdeal [hEncodeIdeal : Cert.EncodeIdeal.Facts] : Prop :=
  ∀ (m : (ℓ : Loc Cert.EncodeIdeal.nD Cert.EncodeIdeal.τ Cert.EncodeIdeal.sig) → Buf (Elt Ideal) ℓ) (g : Dev Cert.EncodeIdeal.nD → PrngReg), Pre_EncodeIdeal m →
    θ_run (Cert.EncodeIdeal.defs (F := Ideal)) (onTc (τ := Cert.EncodeIdeal.τ) (Cert.EncodeIdeal.main (F := Ideal))) ⟨m, fun _ => 0, g⟩ (fun r => (∀ c : Dev Cert.EncodeIdeal.nD,
      r.2.mem ((c.tc : Thread Cert.EncodeIdeal.nD Cert.EncodeIdeal.τ).loc Cert.EncodeIdeal.main_arg0) = m ((c.tc : Thread Cert.EncodeIdeal.nD Cert.EncodeIdeal.τ).loc Cert.EncodeIdeal.main_arg0)
      ∧ r.2.mem ((c.tc : Thread Cert.EncodeIdeal.nD Cert.EncodeIdeal.τ).loc Cert.EncodeIdeal.main_arg1) = m ((c.tc : Thread Cert.EncodeIdeal.nD Cert.EncodeIdeal.τ).loc Cert.EncodeIdeal.main_arg1)
      ∧ r.2.mem ((c.tc : Thread Cert.EncodeIdeal.nD Cert.EncodeIdeal.τ).loc Cert.EncodeIdeal.main_arg2) = m ((c.tc : Thread Cert.EncodeIdeal.nD Cert.EncodeIdeal.τ).loc Cert.EncodeIdeal.main_arg2)
      ∧ r.2.mem ((c.tc : Thread Cert.EncodeIdeal.nD Cert.EncodeIdeal.τ).loc Cert.EncodeIdeal.main_arg3) = m ((c.tc : Thread Cert.EncodeIdeal.nD Cert.EncodeIdeal.τ).loc Cert.EncodeIdeal.main_arg3)
      ∧ r.2.mem ((c.tc : Thread Cert.EncodeIdeal.nD Cert.EncodeIdeal.τ).loc Cert.EncodeIdeal.main_arg4) = m ((c.tc : Thread Cert.EncodeIdeal.nD Cert.EncodeIdeal.τ).loc Cert.EncodeIdeal.main_arg4)
      ∧ r.2.mem ((c.tc : Thread Cert.EncodeIdeal.nD Cert.EncodeIdeal.τ).loc Cert.EncodeIdeal.main_arg5) = m ((c.tc : Thread Cert.EncodeIdeal.nD Cert.EncodeIdeal.τ).loc Cert.EncodeIdeal.main_arg5)
      ∧ r.2.mem ((c.tc : Thread Cert.EncodeIdeal.nD Cert.EncodeIdeal.τ).loc Cert.EncodeIdeal.main_arg6) = m ((c.tc : Thread Cert.EncodeIdeal.nD Cert.EncodeIdeal.τ).loc Cert.EncodeIdeal.main_arg6)
      ∧ r.2.mem ((c.tc : Thread Cert.EncodeIdeal.nD Cert.EncodeIdeal.τ).loc Cert.EncodeIdeal.main_arg7) = m ((c.tc : Thread Cert.EncodeIdeal.nD Cert.EncodeIdeal.τ).loc Cert.EncodeIdeal.main_arg7)
      ∧ r.2.mem ((c.tc : Thread Cert.EncodeIdeal.nD Cert.EncodeIdeal.τ).loc Cert.EncodeIdeal.main_arg8) = m ((c.tc : Thread Cert.EncodeIdeal.nD Cert.EncodeIdeal.τ).loc Cert.EncodeIdeal.main_arg8)
      ∧ r.2.mem ((c.tc : Thread Cert.EncodeIdeal.nD Cert.EncodeIdeal.τ).loc Cert.EncodeIdeal.main_arg9) = m ((c.tc : Thread Cert.EncodeIdeal.nD Cert.EncodeIdeal.τ).loc Cert.EncodeIdeal.main_arg9)
      ∧ r.2.mem ((c.tc : Thread Cert.EncodeIdeal.nD Cert.EncodeIdeal.τ).loc Cert.EncodeIdeal.main_arg10) = m ((c.tc : Thread Cert.EncodeIdeal.nD Cert.EncodeIdeal.τ).loc Cert.EncodeIdeal.main_arg10)
      ∧ r.2.mem ((c.tc : Thread Cert.EncodeIdeal.nD Cert.EncodeIdeal.τ).loc Cert.EncodeIdeal.main_arg11) = m ((c.tc : Thread Cert.EncodeIdeal.nD Cert.EncodeIdeal.τ).loc Cert.EncodeIdeal.main_arg11))
      ∧ r.2.sem = fun _ => 0)

def quiescent_EncodeRefIdeal [hEncodeRefIdeal : Cert.EncodeRefIdeal.Facts] : Prop :=
  ∀ (m : (ℓ : Loc Cert.EncodeRefIdeal.nD Cert.EncodeRefIdeal.τ Cert.EncodeRefIdeal.sig) → Buf (Elt Ideal) ℓ) (g : Dev Cert.EncodeRefIdeal.nD → PrngReg), Pre_EncodeRefIdeal m →
    θ_run (Cert.EncodeRefIdeal.defs (F := Ideal)) (onTc (τ := Cert.EncodeRefIdeal.τ) (Cert.EncodeRefIdeal.main (F := Ideal))) ⟨m, fun _ => 0, g⟩ (fun r => (∀ c : Dev Cert.EncodeRefIdeal.nD,
      r.2.mem ((c.tc : Thread Cert.EncodeRefIdeal.nD Cert.EncodeRefIdeal.τ).loc Cert.EncodeRefIdeal.main_arg0) = m ((c.tc : Thread Cert.EncodeRefIdeal.nD Cert.EncodeRefIdeal.τ).loc Cert.EncodeRefIdeal.main_arg0)
      ∧ r.2.mem ((c.tc : Thread Cert.EncodeRefIdeal.nD Cert.EncodeRefIdeal.τ).loc Cert.EncodeRefIdeal.main_arg1) = m ((c.tc : Thread Cert.EncodeRefIdeal.nD Cert.EncodeRefIdeal.τ).loc Cert.EncodeRefIdeal.main_arg1)
      ∧ r.2.mem ((c.tc : Thread Cert.EncodeRefIdeal.nD Cert.EncodeRefIdeal.τ).loc Cert.EncodeRefIdeal.main_arg2) = m ((c.tc : Thread Cert.EncodeRefIdeal.nD Cert.EncodeRefIdeal.τ).loc Cert.EncodeRefIdeal.main_arg2)
      ∧ r.2.mem ((c.tc : Thread Cert.EncodeRefIdeal.nD Cert.EncodeRefIdeal.τ).loc Cert.EncodeRefIdeal.main_arg3) = m ((c.tc : Thread Cert.EncodeRefIdeal.nD Cert.EncodeRefIdeal.τ).loc Cert.EncodeRefIdeal.main_arg3)
      ∧ r.2.mem ((c.tc : Thread Cert.EncodeRefIdeal.nD Cert.EncodeRefIdeal.τ).loc Cert.EncodeRefIdeal.main_arg4) = m ((c.tc : Thread Cert.EncodeRefIdeal.nD Cert.EncodeRefIdeal.τ).loc Cert.EncodeRefIdeal.main_arg4)
      ∧ r.2.mem ((c.tc : Thread Cert.EncodeRefIdeal.nD Cert.EncodeRefIdeal.τ).loc Cert.EncodeRefIdeal.main_arg5) = m ((c.tc : Thread Cert.EncodeRefIdeal.nD Cert.EncodeRefIdeal.τ).loc Cert.EncodeRefIdeal.main_arg5)
      ∧ r.2.mem ((c.tc : Thread Cert.EncodeRefIdeal.nD Cert.EncodeRefIdeal.τ).loc Cert.EncodeRefIdeal.main_arg6) = m ((c.tc : Thread Cert.EncodeRefIdeal.nD Cert.EncodeRefIdeal.τ).loc Cert.EncodeRefIdeal.main_arg6)
      ∧ r.2.mem ((c.tc : Thread Cert.EncodeRefIdeal.nD Cert.EncodeRefIdeal.τ).loc Cert.EncodeRefIdeal.main_arg7) = m ((c.tc : Thread Cert.EncodeRefIdeal.nD Cert.EncodeRefIdeal.τ).loc Cert.EncodeRefIdeal.main_arg7)
      ∧ r.2.mem ((c.tc : Thread Cert.EncodeRefIdeal.nD Cert.EncodeRefIdeal.τ).loc Cert.EncodeRefIdeal.main_arg8) = m ((c.tc : Thread Cert.EncodeRefIdeal.nD Cert.EncodeRefIdeal.τ).loc Cert.EncodeRefIdeal.main_arg8)
      ∧ r.2.mem ((c.tc : Thread Cert.EncodeRefIdeal.nD Cert.EncodeRefIdeal.τ).loc Cert.EncodeRefIdeal.main_arg9) = m ((c.tc : Thread Cert.EncodeRefIdeal.nD Cert.EncodeRefIdeal.τ).loc Cert.EncodeRefIdeal.main_arg9)
      ∧ r.2.mem ((c.tc : Thread Cert.EncodeRefIdeal.nD Cert.EncodeRefIdeal.τ).loc Cert.EncodeRefIdeal.main_arg10) = m ((c.tc : Thread Cert.EncodeRefIdeal.nD Cert.EncodeRefIdeal.τ).loc Cert.EncodeRefIdeal.main_arg10)
      ∧ r.2.mem ((c.tc : Thread Cert.EncodeRefIdeal.nD Cert.EncodeRefIdeal.τ).loc Cert.EncodeRefIdeal.main_arg11) = m ((c.tc : Thread Cert.EncodeRefIdeal.nD Cert.EncodeRefIdeal.τ).loc Cert.EncodeRefIdeal.main_arg11))
      ∧ r.2.sem = fun _ => 0)

def quiescent_Rank [hRank : Cert.Rank.Facts] : Prop :=
  ∀ (m : (ℓ : Loc Cert.Rank.nD Cert.Rank.τ Cert.Rank.sig) → Buf (Elt Bits) ℓ) (g : Dev Cert.Rank.nD → PrngReg), Pre_Rank m →
    θ_run (Cert.Rank.defs (F := Bits)) (onTc (τ := Cert.Rank.τ) (Cert.Rank.main (F := Bits))) ⟨m, fun _ => 0, g⟩ (fun r => (∀ c : Dev Cert.Rank.nD,
      r.2.mem ((c.tc : Thread Cert.Rank.nD Cert.Rank.τ).loc Cert.Rank.main_arg0) = m ((c.tc : Thread Cert.Rank.nD Cert.Rank.τ).loc Cert.Rank.main_arg0)
      ∧ r.2.mem ((c.tc : Thread Cert.Rank.nD Cert.Rank.τ).loc Cert.Rank.main_arg1) = m ((c.tc : Thread Cert.Rank.nD Cert.Rank.τ).loc Cert.Rank.main_arg1))
      ∧ r.2.sem = fun _ => 0)

def quiescent_RankIdeal [hRankIdeal : Cert.RankIdeal.Facts] : Prop :=
  ∀ (m : (ℓ : Loc Cert.RankIdeal.nD Cert.RankIdeal.τ Cert.RankIdeal.sig) → Buf (Elt Ideal) ℓ) (g : Dev Cert.RankIdeal.nD → PrngReg), Pre_RankIdeal m →
    θ_run (Cert.RankIdeal.defs (F := Ideal)) (onTc (τ := Cert.RankIdeal.τ) (Cert.RankIdeal.main (F := Ideal))) ⟨m, fun _ => 0, g⟩ (fun r => (∀ c : Dev Cert.RankIdeal.nD,
      r.2.mem ((c.tc : Thread Cert.RankIdeal.nD Cert.RankIdeal.τ).loc Cert.RankIdeal.main_arg0) = m ((c.tc : Thread Cert.RankIdeal.nD Cert.RankIdeal.τ).loc Cert.RankIdeal.main_arg0)
      ∧ r.2.mem ((c.tc : Thread Cert.RankIdeal.nD Cert.RankIdeal.τ).loc Cert.RankIdeal.main_arg1) = m ((c.tc : Thread Cert.RankIdeal.nD Cert.RankIdeal.τ).loc Cert.RankIdeal.main_arg1))
      ∧ r.2.sem = fun _ => 0)

def quiescent_RankRefIdeal [hRankRefIdeal : Cert.RankRefIdeal.Facts] : Prop :=
  ∀ (m : (ℓ : Loc Cert.RankRefIdeal.nD Cert.RankRefIdeal.τ Cert.RankRefIdeal.sig) → Buf (Elt Ideal) ℓ) (g : Dev Cert.RankRefIdeal.nD → PrngReg), Pre_RankRefIdeal m →
    θ_run (Cert.RankRefIdeal.defs (F := Ideal)) (onTc (τ := Cert.RankRefIdeal.τ) (Cert.RankRefIdeal.main (F := Ideal))) ⟨m, fun _ => 0, g⟩ (fun r => (∀ c : Dev Cert.RankRefIdeal.nD,
      r.2.mem ((c.tc : Thread Cert.RankRefIdeal.nD Cert.RankRefIdeal.τ).loc Cert.RankRefIdeal.main_arg0) = m ((c.tc : Thread Cert.RankRefIdeal.nD Cert.RankRefIdeal.τ).loc Cert.RankRefIdeal.main_arg0)
      ∧ r.2.mem ((c.tc : Thread Cert.RankRefIdeal.nD Cert.RankRefIdeal.τ).loc Cert.RankRefIdeal.main_arg1) = m ((c.tc : Thread Cert.RankRefIdeal.nD Cert.RankRefIdeal.τ).loc Cert.RankRefIdeal.main_arg1))
      ∧ r.2.sem = fun _ => 0)

def quiescent_Pick [hPick : Cert.Pick.Facts] [hPre_idx_names_labels : Cert.Pre_idx_names_labels.Facts] : Prop :=
  ∀ (m : (ℓ : Loc Cert.Pick.nD Cert.Pick.τ Cert.Pick.sig) → Buf (Elt Bits) ℓ) (g : Dev Cert.Pick.nD → PrngReg), Pre_Pick m →
    θ_run (Cert.Pick.defs (F := Bits)) (onTc (τ := Cert.Pick.τ) (Cert.Pick.main (F := Bits))) ⟨m, fun _ => 0, g⟩ (fun r => (∀ c : Dev Cert.Pick.nD,
      r.2.mem ((c.tc : Thread Cert.Pick.nD Cert.Pick.τ).loc Cert.Pick.main_arg0) = m ((c.tc : Thread Cert.Pick.nD Cert.Pick.τ).loc Cert.Pick.main_arg0)
      ∧ r.2.mem ((c.tc : Thread Cert.Pick.nD Cert.Pick.τ).loc Cert.Pick.main_arg1) = m ((c.tc : Thread Cert.Pick.nD Cert.Pick.τ).loc Cert.Pick.main_arg1))
      ∧ r.2.sem = fun _ => 0)

def quiescent_PickIdeal [hPickIdeal : Cert.PickIdeal.Facts] [hPre_idx_names_labels : Cert.Pre_idx_names_labels.Facts] : Prop :=
  ∀ (m : (ℓ : Loc Cert.PickIdeal.nD Cert.PickIdeal.τ Cert.PickIdeal.sig) → Buf (Elt Ideal) ℓ) (g : Dev Cert.PickIdeal.nD → PrngReg), Pre_PickIdeal m →
    θ_run (Cert.PickIdeal.defs (F := Ideal)) (onTc (τ := Cert.PickIdeal.τ) (Cert.PickIdeal.main (F := Ideal))) ⟨m, fun _ => 0, g⟩ (fun r => (∀ c : Dev Cert.PickIdeal.nD,
      r.2.mem ((c.tc : Thread Cert.PickIdeal.nD Cert.PickIdeal.τ).loc Cert.PickIdeal.main_arg0) = m ((c.tc : Thread Cert.PickIdeal.nD Cert.PickIdeal.τ).loc Cert.PickIdeal.main_arg0)
      ∧ r.2.mem ((c.tc : Thread Cert.PickIdeal.nD Cert.PickIdeal.τ).loc Cert.PickIdeal.main_arg1) = m ((c.tc : Thread Cert.PickIdeal.nD Cert.PickIdeal.τ).loc Cert.PickIdeal.main_arg1))
      ∧ r.2.sem = fun _ => 0)

def quiescent_PickRefIdeal [hPickRefIdeal : Cert.PickRefIdeal.Facts] : Prop :=
  ∀ (m : (ℓ : Loc Cert.PickRefIdeal.nD Cert.PickRefIdeal.τ Cert.PickRefIdeal.sig) → Buf (Elt Ideal) ℓ) (g : Dev Cert.PickRefIdeal.nD → PrngReg), Pre_PickRefIdeal m →
    θ_run (Cert.PickRefIdeal.defs (F := Ideal)) (onTc (τ := Cert.PickRefIdeal.τ) (Cert.PickRefIdeal.main (F := Ideal))) ⟨m, fun _ => 0, g⟩ (fun r => (∀ c : Dev Cert.PickRefIdeal.nD,
      r.2.mem ((c.tc : Thread Cert.PickRefIdeal.nD Cert.PickRefIdeal.τ).loc Cert.PickRefIdeal.main_arg0) = m ((c.tc : Thread Cert.PickRefIdeal.nD Cert.PickRefIdeal.τ).loc Cert.PickRefIdeal.main_arg0)
      ∧ r.2.mem ((c.tc : Thread Cert.PickRefIdeal.nD Cert.PickRefIdeal.τ).loc Cert.PickRefIdeal.main_arg1) = m ((c.tc : Thread Cert.PickRefIdeal.nD Cert.PickRefIdeal.τ).loc Cert.PickRefIdeal.main_arg1))
      ∧ r.2.sem = fun _ => 0)

def quiescent_PickRefIdeal_pre_idx_names_labels [hPickRefIdeal : Cert.PickRefIdeal.Facts] [hPre_idx_names_labels : Cert.Pre_idx_names_labels.Facts] : Prop :=
  ∀ (m : (ℓ : Loc Cert.PickRefIdeal.nD Cert.PickRefIdeal.τ Cert.PickRefIdeal.sig) → Buf (Elt Ideal) ℓ) (g : Dev Cert.PickRefIdeal.nD → PrngReg), Pre_PickRefIdeal_idx_names_labels m →
    θ_run (Cert.PickRefIdeal.defs (F := Ideal)) (onTc (τ := Cert.PickRefIdeal.τ) (Cert.PickRefIdeal.main (F := Ideal))) ⟨m, fun _ => 0, g⟩ (fun r => (∀ c : Dev Cert.PickRefIdeal.nD,
      r.2.mem ((c.tc : Thread Cert.PickRefIdeal.nD Cert.PickRefIdeal.τ).loc Cert.PickRefIdeal.main_arg0) = m ((c.tc : Thread Cert.PickRefIdeal.nD Cert.PickRefIdeal.τ).loc Cert.PickRefIdeal.main_arg0)
      ∧ r.2.mem ((c.tc : Thread Cert.PickRefIdeal.nD Cert.PickRefIdeal.τ).loc Cert.PickRefIdeal.main_arg1) = m ((c.tc : Thread Cert.PickRefIdeal.nD Cert.PickRefIdeal.τ).loc Cert.PickRefIdeal.main_arg1))
      ∧ r.2.sem = fun _ => 0)

def preserves_Encode_EncodeIdeal : Prop :=
  IdealRules.named_const.Statement Cert.EncodeIdeal.κ "scale" .f32 0x3D3504F3#32 (((Real.sqrt 512)⁻¹ : ℝ) : EReal)

def algebraic_EncodeIdeal_EncodeRefIdeal [hEncodeIdeal : Cert.EncodeIdeal.Facts] [hEncodeRefIdeal : Cert.EncodeRefIdeal.Facts] : Prop :=
  ∀ (m : (ℓ : Loc Cert.EncodeIdeal.nD Cert.EncodeIdeal.τ Cert.EncodeIdeal.sig) → Buf (Elt Ideal) ℓ) (g : Dev Cert.EncodeIdeal.nD → PrngReg)
    (m' : (ℓ : Loc Cert.EncodeRefIdeal.nD Cert.EncodeRefIdeal.τ Cert.EncodeRefIdeal.sig) → Buf (Elt Ideal) ℓ) (g' : Dev Cert.EncodeRefIdeal.nD → PrngReg), Pre_EncodeIdeal m →
    (∀ c : Dev Cert.EncodeIdeal.nD,
      m' ((c.tc : Thread Cert.EncodeRefIdeal.nD Cert.EncodeRefIdeal.τ).loc Cert.EncodeRefIdeal.main_arg0) = m ((c.tc : Thread Cert.EncodeIdeal.nD Cert.EncodeIdeal.τ).loc Cert.EncodeIdeal.main_arg0)
      ∧ m' ((c.tc : Thread Cert.EncodeRefIdeal.nD Cert.EncodeRefIdeal.τ).loc Cert.EncodeRefIdeal.main_arg1) = m ((c.tc : Thread Cert.EncodeIdeal.nD Cert.EncodeIdeal.τ).loc Cert.EncodeIdeal.main_arg1)
      ∧ m' ((c.tc : Thread Cert.EncodeRefIdeal.nD Cert.EncodeRefIdeal.τ).loc Cert.EncodeRefIdeal.main_arg2) = m ((c.tc : Thread Cert.EncodeIdeal.nD Cert.EncodeIdeal.τ).loc Cert.EncodeIdeal.main_arg2)
      ∧ m' ((c.tc : Thread Cert.EncodeRefIdeal.nD Cert.EncodeRefIdeal.τ).loc Cert.EncodeRefIdeal.main_arg3) = m ((c.tc : Thread Cert.EncodeIdeal.nD Cert.EncodeIdeal.τ).loc Cert.EncodeIdeal.main_arg3)
      ∧ m' ((c.tc : Thread Cert.EncodeRefIdeal.nD Cert.EncodeRefIdeal.τ).loc Cert.EncodeRefIdeal.main_arg4) = m ((c.tc : Thread Cert.EncodeIdeal.nD Cert.EncodeIdeal.τ).loc Cert.EncodeIdeal.main_arg4)
      ∧ m' ((c.tc : Thread Cert.EncodeRefIdeal.nD Cert.EncodeRefIdeal.τ).loc Cert.EncodeRefIdeal.main_arg5) = m ((c.tc : Thread Cert.EncodeIdeal.nD Cert.EncodeIdeal.τ).loc Cert.EncodeIdeal.main_arg5)
      ∧ m' ((c.tc : Thread Cert.EncodeRefIdeal.nD Cert.EncodeRefIdeal.τ).loc Cert.EncodeRefIdeal.main_arg6) = m ((c.tc : Thread Cert.EncodeIdeal.nD Cert.EncodeIdeal.τ).loc Cert.EncodeIdeal.main_arg6)
      ∧ m' ((c.tc : Thread Cert.EncodeRefIdeal.nD Cert.EncodeRefIdeal.τ).loc Cert.EncodeRefIdeal.main_arg7) = m ((c.tc : Thread Cert.EncodeIdeal.nD Cert.EncodeIdeal.τ).loc Cert.EncodeIdeal.main_arg7)
      ∧ m' ((c.tc : Thread Cert.EncodeRefIdeal.nD Cert.EncodeRefIdeal.τ).loc Cert.EncodeRefIdeal.main_arg8) = m ((c.tc : Thread Cert.EncodeIdeal.nD Cert.EncodeIdeal.τ).loc Cert.EncodeIdeal.main_arg8)
      ∧ m' ((c.tc : Thread Cert.EncodeRefIdeal.nD Cert.EncodeRefIdeal.τ).loc Cert.EncodeRefIdeal.main_arg9) = m ((c.tc : Thread Cert.EncodeIdeal.nD Cert.EncodeIdeal.τ).loc Cert.EncodeIdeal.main_arg9)
      ∧ m' ((c.tc : Thread Cert.EncodeRefIdeal.nD Cert.EncodeRefIdeal.τ).loc Cert.EncodeRefIdeal.main_arg10) = m ((c.tc : Thread Cert.EncodeIdeal.nD Cert.EncodeIdeal.τ).loc Cert.EncodeIdeal.main_arg10)
      ∧ m' ((c.tc : Thread Cert.EncodeRefIdeal.nD Cert.EncodeRefIdeal.τ).loc Cert.EncodeRefIdeal.main_arg11) = m ((c.tc : Thread Cert.EncodeIdeal.nD Cert.EncodeIdeal.τ).loc Cert.EncodeIdeal.main_arg11)) →
    ∃ (v0 : (c : Dev Cert.EncodeIdeal.nD) → Buf (Elt Ideal) ((c.tc : Thread Cert.EncodeIdeal.nD Cert.EncodeIdeal.τ).loc Cert.EncodeIdeal.main_v16)),
      θ_run (Cert.EncodeIdeal.defs (F := Ideal)) (onTc (τ := Cert.EncodeIdeal.τ) (Cert.EncodeIdeal.main (F := Ideal))) ⟨m, fun _ => 0, g⟩ (fun r => ∀ c : Dev Cert.EncodeIdeal.nD,
          r.2.mem ((c.tc : Thread Cert.EncodeIdeal.nD Cert.EncodeIdeal.τ).loc Cert.EncodeIdeal.main_v16) = v0 c
          ∧ r.2.mem ((c.tc : Thread Cert.EncodeIdeal.nD Cert.EncodeIdeal.τ).loc Cert.EncodeIdeal.main_arg0) = m ((c.tc : Thread Cert.EncodeIdeal.nD Cert.EncodeIdeal.τ).loc Cert.EncodeIdeal.main_arg0)
          ∧ r.2.mem ((c.tc : Thread Cert.EncodeIdeal.nD Cert.EncodeIdeal.τ).loc Cert.EncodeIdeal.main_arg1) = m ((c.tc : Thread Cert.EncodeIdeal.nD Cert.EncodeIdeal.τ).loc Cert.EncodeIdeal.main_arg1)
          ∧ r.2.mem ((c.tc : Thread Cert.EncodeIdeal.nD Cert.EncodeIdeal.τ).loc Cert.EncodeIdeal.main_arg2) = m ((c.tc : Thread Cert.EncodeIdeal.nD Cert.EncodeIdeal.τ).loc Cert.EncodeIdeal.main_arg2)
          ∧ r.2.mem ((c.tc : Thread Cert.EncodeIdeal.nD Cert.EncodeIdeal.τ).loc Cert.EncodeIdeal.main_arg3) = m ((c.tc : Thread Cert.EncodeIdeal.nD Cert.EncodeIdeal.τ).loc Cert.EncodeIdeal.main_arg3)
          ∧ r.2.mem ((c.tc : Thread Cert.EncodeIdeal.nD Cert.EncodeIdeal.τ).loc Cert.EncodeIdeal.main_arg4) = m ((c.tc : Thread Cert.EncodeIdeal.nD Cert.EncodeIdeal.τ).loc Cert.EncodeIdeal.main_arg4)
          ∧ r.2.mem ((c.tc : Thread Cert.EncodeIdeal.nD Cert.EncodeIdeal.τ).loc Cert.EncodeIdeal.main_arg5) = m ((c.tc : Thread Cert.EncodeIdeal.nD Cert.EncodeIdeal.τ).loc Cert.EncodeIdeal.main_arg5)
          ∧ r.2.mem ((c.tc : Thread Cert.EncodeIdeal.nD Cert.EncodeIdeal.τ).loc Cert.EncodeIdeal.main_arg6) = m ((c.tc : Thread Cert.EncodeIdeal.nD Cert.EncodeIdeal.τ).loc Cert.EncodeIdeal.main_arg6)
          ∧ r.2.mem ((c.tc : Thread Cert.EncodeIdeal.nD Cert.EncodeIdeal.τ).loc Cert.EncodeIdeal.main_arg7) = m ((c.tc : Thread Cert.EncodeIdeal.nD Cert.EncodeIdeal.τ).loc Cert.EncodeIdeal.main_arg7)
          ∧ r.2.mem ((c.tc : Thread Cert.EncodeIdeal.nD Cert.EncodeIdeal.τ).loc Cert.EncodeIdeal.main_arg8) = m ((c.tc : Thread Cert.EncodeIdeal.nD Cert.EncodeIdeal.τ).loc Cert.EncodeIdeal.main_arg8)
          ∧ r.2.mem ((c.tc : Thread Cert.EncodeIdeal.nD Cert.EncodeIdeal.τ).loc Cert.EncodeIdeal.main_arg9) = m ((c.tc : Thread Cert.EncodeIdeal.nD Cert.EncodeIdeal.τ).loc Cert.EncodeIdeal.main_arg9)
          ∧ r.2.mem ((c.tc : Thread Cert.EncodeIdeal.nD Cert.EncodeIdeal.τ).loc Cert.EncodeIdeal.main_arg10) = m ((c.tc : Thread Cert.EncodeIdeal.nD Cert.EncodeIdeal.τ).loc Cert.EncodeIdeal.main_arg10)
          ∧ r.2.mem ((c.tc : Thread Cert.EncodeIdeal.nD Cert.EncodeIdeal.τ).loc Cert.EncodeIdeal.main_arg11) = m ((c.tc : Thread Cert.EncodeIdeal.nD Cert.EncodeIdeal.τ).loc Cert.EncodeIdeal.main_arg11))
      ∧ θ_run (Cert.EncodeRefIdeal.defs (F := Ideal)) (onTc (τ := Cert.EncodeRefIdeal.τ) (Cert.EncodeRefIdeal.main (F := Ideal))) ⟨m', fun _ => 0, g'⟩ (fun r => ∀ c : Dev Cert.EncodeRefIdeal.nD,
          r.2.mem ((c.tc : Thread Cert.EncodeRefIdeal.nD Cert.EncodeRefIdeal.τ).loc Cert.EncodeRefIdeal.main_v56) = v0 c
          ∧ r.2.mem ((c.tc : Thread Cert.EncodeRefIdeal.nD Cert.EncodeRefIdeal.τ).loc Cert.EncodeRefIdeal.main_arg0) = m' ((c.tc : Thread Cert.EncodeRefIdeal.nD Cert.EncodeRefIdeal.τ).loc Cert.EncodeRefIdeal.main_arg0)
          ∧ r.2.mem ((c.tc : Thread Cert.EncodeRefIdeal.nD Cert.EncodeRefIdeal.τ).loc Cert.EncodeRefIdeal.main_arg1) = m' ((c.tc : Thread Cert.EncodeRefIdeal.nD Cert.EncodeRefIdeal.τ).loc Cert.EncodeRefIdeal.main_arg1)
          ∧ r.2.mem ((c.tc : Thread Cert.EncodeRefIdeal.nD Cert.EncodeRefIdeal.τ).loc Cert.EncodeRefIdeal.main_arg2) = m' ((c.tc : Thread Cert.EncodeRefIdeal.nD Cert.EncodeRefIdeal.τ).loc Cert.EncodeRefIdeal.main_arg2)
          ∧ r.2.mem ((c.tc : Thread Cert.EncodeRefIdeal.nD Cert.EncodeRefIdeal.τ).loc Cert.EncodeRefIdeal.main_arg3) = m' ((c.tc : Thread Cert.EncodeRefIdeal.nD Cert.EncodeRefIdeal.τ).loc Cert.EncodeRefIdeal.main_arg3)
          ∧ r.2.mem ((c.tc : Thread Cert.EncodeRefIdeal.nD Cert.EncodeRefIdeal.τ).loc Cert.EncodeRefIdeal.main_arg4) = m' ((c.tc : Thread Cert.EncodeRefIdeal.nD Cert.EncodeRefIdeal.τ).loc Cert.EncodeRefIdeal.main_arg4)
          ∧ r.2.mem ((c.tc : Thread Cert.EncodeRefIdeal.nD Cert.EncodeRefIdeal.τ).loc Cert.EncodeRefIdeal.main_arg5) = m' ((c.tc : Thread Cert.EncodeRefIdeal.nD Cert.EncodeRefIdeal.τ).loc Cert.EncodeRefIdeal.main_arg5)
          ∧ r.2.mem ((c.tc : Thread Cert.EncodeRefIdeal.nD Cert.EncodeRefIdeal.τ).loc Cert.EncodeRefIdeal.main_arg6) = m' ((c.tc : Thread Cert.EncodeRefIdeal.nD Cert.EncodeRefIdeal.τ).loc Cert.EncodeRefIdeal.main_arg6)
          ∧ r.2.mem ((c.tc : Thread Cert.EncodeRefIdeal.nD Cert.EncodeRefIdeal.τ).loc Cert.EncodeRefIdeal.main_arg7) = m' ((c.tc : Thread Cert.EncodeRefIdeal.nD Cert.EncodeRefIdeal.τ).loc Cert.EncodeRefIdeal.main_arg7)
          ∧ r.2.mem ((c.tc : Thread Cert.EncodeRefIdeal.nD Cert.EncodeRefIdeal.τ).loc Cert.EncodeRefIdeal.main_arg8) = m' ((c.tc : Thread Cert.EncodeRefIdeal.nD Cert.EncodeRefIdeal.τ).loc Cert.EncodeRefIdeal.main_arg8)
          ∧ r.2.mem ((c.tc : Thread Cert.EncodeRefIdeal.nD Cert.EncodeRefIdeal.τ).loc Cert.EncodeRefIdeal.main_arg9) = m' ((c.tc : Thread Cert.EncodeRefIdeal.nD Cert.EncodeRefIdeal.τ).loc Cert.EncodeRefIdeal.main_arg9)
          ∧ r.2.mem ((c.tc : Thread Cert.EncodeRefIdeal.nD Cert.EncodeRefIdeal.τ).loc Cert.EncodeRefIdeal.main_arg10) = m' ((c.tc : Thread Cert.EncodeRefIdeal.nD Cert.EncodeRefIdeal.τ).loc Cert.EncodeRefIdeal.main_arg10)
          ∧ r.2.mem ((c.tc : Thread Cert.EncodeRefIdeal.nD Cert.EncodeRefIdeal.τ).loc Cert.EncodeRefIdeal.main_arg11) = m' ((c.tc : Thread Cert.EncodeRefIdeal.nD Cert.EncodeRefIdeal.τ).loc Cert.EncodeRefIdeal.main_arg11))

def preserves_Rank_RankIdeal : Prop :=
  True

def algebraic_RankIdeal_RankRefIdeal [hRankIdeal : Cert.RankIdeal.Facts] [hRankRefIdeal : Cert.RankRefIdeal.Facts] : Prop :=
  ∀ (m : (ℓ : Loc Cert.RankIdeal.nD Cert.RankIdeal.τ Cert.RankIdeal.sig) → Buf (Elt Ideal) ℓ) (g : Dev Cert.RankIdeal.nD → PrngReg)
    (m' : (ℓ : Loc Cert.RankRefIdeal.nD Cert.RankRefIdeal.τ Cert.RankRefIdeal.sig) → Buf (Elt Ideal) ℓ) (g' : Dev Cert.RankRefIdeal.nD → PrngReg), Pre_RankIdeal m →
    (∀ c : Dev Cert.RankIdeal.nD,
      m' ((c.tc : Thread Cert.RankRefIdeal.nD Cert.RankRefIdeal.τ).loc Cert.RankRefIdeal.main_arg0) = m ((c.tc : Thread Cert.RankIdeal.nD Cert.RankIdeal.τ).loc Cert.RankIdeal.main_arg0)
      ∧ m' ((c.tc : Thread Cert.RankRefIdeal.nD Cert.RankRefIdeal.τ).loc Cert.RankRefIdeal.main_arg1) = m ((c.tc : Thread Cert.RankIdeal.nD Cert.RankIdeal.τ).loc Cert.RankIdeal.main_arg1)) →
    ∃ (v0 : (c : Dev Cert.RankIdeal.nD) → Buf (Elt Ideal) ((c.tc : Thread Cert.RankIdeal.nD Cert.RankIdeal.τ).loc Cert.RankIdeal.main_v1)),
      θ_run (Cert.RankIdeal.defs (F := Ideal)) (onTc (τ := Cert.RankIdeal.τ) (Cert.RankIdeal.main (F := Ideal))) ⟨m, fun _ => 0, g⟩ (fun r => ∀ c : Dev Cert.RankIdeal.nD,
          r.2.mem ((c.tc : Thread Cert.RankIdeal.nD Cert.RankIdeal.τ).loc Cert.RankIdeal.main_v1) = v0 c
          ∧ r.2.mem ((c.tc : Thread Cert.RankIdeal.nD Cert.RankIdeal.τ).loc Cert.RankIdeal.main_arg0) = m ((c.tc : Thread Cert.RankIdeal.nD Cert.RankIdeal.τ).loc Cert.RankIdeal.main_arg0)
          ∧ r.2.mem ((c.tc : Thread Cert.RankIdeal.nD Cert.RankIdeal.τ).loc Cert.RankIdeal.main_arg1) = m ((c.tc : Thread Cert.RankIdeal.nD Cert.RankIdeal.τ).loc Cert.RankIdeal.main_arg1))
      ∧ θ_run (Cert.RankRefIdeal.defs (F := Ideal)) (onTc (τ := Cert.RankRefIdeal.τ) (Cert.RankRefIdeal.main (F := Ideal))) ⟨m', fun _ => 0, g'⟩ (fun r => ∀ c : Dev Cert.RankRefIdeal.nD,
          r.2.mem ((c.tc : Thread Cert.RankRefIdeal.nD Cert.RankRefIdeal.τ).loc Cert.RankRefIdeal.main_indices) = v0 c
          ∧ r.2.mem ((c.tc : Thread Cert.RankRefIdeal.nD Cert.RankRefIdeal.τ).loc Cert.RankRefIdeal.main_arg0) = m' ((c.tc : Thread Cert.RankRefIdeal.nD Cert.RankRefIdeal.τ).loc Cert.RankRefIdeal.main_arg0)
          ∧ r.2.mem ((c.tc : Thread Cert.RankRefIdeal.nD Cert.RankRefIdeal.τ).loc Cert.RankRefIdeal.main_arg1) = m' ((c.tc : Thread Cert.RankRefIdeal.nD Cert.RankRefIdeal.τ).loc Cert.RankRefIdeal.main_arg1))

def preserves_Pick_PickIdeal : Prop :=
  True

def algebraic_PickIdeal_PickRefIdeal [hPickIdeal : Cert.PickIdeal.Facts] [hPickRefIdeal : Cert.PickRefIdeal.Facts] [hPre_idx_names_labels : Cert.Pre_idx_names_labels.Facts] : Prop :=
  ∀ (m : (ℓ : Loc Cert.PickIdeal.nD Cert.PickIdeal.τ Cert.PickIdeal.sig) → Buf (Elt Ideal) ℓ) (g : Dev Cert.PickIdeal.nD → PrngReg)
    (m' : (ℓ : Loc Cert.PickRefIdeal.nD Cert.PickRefIdeal.τ Cert.PickRefIdeal.sig) → Buf (Elt Ideal) ℓ) (g' : Dev Cert.PickRefIdeal.nD → PrngReg), Pre_PickIdeal m →
    (∀ c : Dev Cert.PickIdeal.nD,
      m' ((c.tc : Thread Cert.PickRefIdeal.nD Cert.PickRefIdeal.τ).loc Cert.PickRefIdeal.main_arg0) = m ((c.tc : Thread Cert.PickIdeal.nD Cert.PickIdeal.τ).loc Cert.PickIdeal.main_arg0)
      ∧ m' ((c.tc : Thread Cert.PickRefIdeal.nD Cert.PickRefIdeal.τ).loc Cert.PickRefIdeal.main_arg1) = m ((c.tc : Thread Cert.PickIdeal.nD Cert.PickIdeal.τ).loc Cert.PickIdeal.main_arg1)) →
    ∃ (v0 : (c : Dev Cert.PickIdeal.nD) → Buf (Elt Ideal) ((c.tc : Thread Cert.PickIdeal.nD Cert.PickIdeal.τ).loc Cert.PickIdeal.main_v3)),
      θ_run (Cert.PickIdeal.defs (F := Ideal)) (onTc (τ := Cert.PickIdeal.τ) (Cert.PickIdeal.main (F := Ideal))) ⟨m, fun _ => 0, g⟩ (fun r => ∀ c : Dev Cert.PickIdeal.nD,
          r.2.mem ((c.tc : Thread Cert.PickIdeal.nD Cert.PickIdeal.τ).loc Cert.PickIdeal.main_v3) = v0 c
          ∧ r.2.mem ((c.tc : Thread Cert.PickIdeal.nD Cert.PickIdeal.τ).loc Cert.PickIdeal.main_arg0) = m ((c.tc : Thread Cert.PickIdeal.nD Cert.PickIdeal.τ).loc Cert.PickIdeal.main_arg0)
          ∧ r.2.mem ((c.tc : Thread Cert.PickIdeal.nD Cert.PickIdeal.τ).loc Cert.PickIdeal.main_arg1) = m ((c.tc : Thread Cert.PickIdeal.nD Cert.PickIdeal.τ).loc Cert.PickIdeal.main_arg1))
      ∧ θ_run (Cert.PickRefIdeal.defs (F := Ideal)) (onTc (τ := Cert.PickRefIdeal.τ) (Cert.PickRefIdeal.main (F := Ideal))) ⟨m', fun _ => 0, g'⟩ (fun r => ∀ c : Dev Cert.PickRefIdeal.nD,
          r.2.mem ((c.tc : Thread Cert.PickRefIdeal.nD Cert.PickRefIdeal.τ).loc Cert.PickRefIdeal.main_v1) = v0 c
          ∧ r.2.mem ((c.tc : Thread Cert.PickRefIdeal.nD Cert.PickRefIdeal.τ).loc Cert.PickRefIdeal.main_arg0) = m' ((c.tc : Thread Cert.PickRefIdeal.nD Cert.PickRefIdeal.τ).loc Cert.PickRefIdeal.main_arg0)
          ∧ r.2.mem ((c.tc : Thread Cert.PickRefIdeal.nD Cert.PickRefIdeal.τ).loc Cert.PickRefIdeal.main_arg1) = m' ((c.tc : Thread Cert.PickRefIdeal.nD Cert.PickRefIdeal.τ).loc Cert.PickRefIdeal.main_arg1))

def Claim : Prop :=
  ∃ (hEncode : Cert.Encode.Facts) (hEncodeIdeal : Cert.EncodeIdeal.Facts) (hEncodeRefIdeal : Cert.EncodeRefIdeal.Facts) (hRank : Cert.Rank.Facts) (hRankIdeal : Cert.RankIdeal.Facts) (hRankRefIdeal : Cert.RankRefIdeal.Facts) (hPick : Cert.Pick.Facts) (hPickIdeal : Cert.PickIdeal.Facts) (hPickRefIdeal : Cert.PickRefIdeal.Facts) (hPre_idx_names_labels : Cert.Pre_idx_names_labels.Facts),
    quiescent_Encode (hEncode := hEncode)
    ∧ quiescent_EncodeIdeal (hEncodeIdeal := hEncodeIdeal)
    ∧ quiescent_EncodeRefIdeal (hEncodeRefIdeal := hEncodeRefIdeal)
    ∧ quiescent_Rank (hRank := hRank)
    ∧ quiescent_RankIdeal (hRankIdeal := hRankIdeal)
    ∧ quiescent_RankRefIdeal (hRankRefIdeal := hRankRefIdeal)
    ∧ quiescent_Pick (hPick := hPick) (hPre_idx_names_labels := hPre_idx_names_labels)
    ∧ quiescent_PickIdeal (hPickIdeal := hPickIdeal) (hPre_idx_names_labels := hPre_idx_names_labels)
    ∧ quiescent_PickRefIdeal (hPickRefIdeal := hPickRefIdeal)
    ∧ quiescent_PickRefIdeal_pre_idx_names_labels (hPickRefIdeal := hPickRefIdeal) (hPre_idx_names_labels := hPre_idx_names_labels)
    ∧ preserves_Encode_EncodeIdeal
    ∧ algebraic_EncodeIdeal_EncodeRefIdeal (hEncodeIdeal := hEncodeIdeal) (hEncodeRefIdeal := hEncodeRefIdeal)
    ∧ preserves_Rank_RankIdeal
    ∧ algebraic_RankIdeal_RankRefIdeal (hRankIdeal := hRankIdeal) (hRankRefIdeal := hRankRefIdeal)
    ∧ preserves_Pick_PickIdeal
    ∧ algebraic_PickIdeal_PickRefIdeal (hPickIdeal := hPickIdeal) (hPickRefIdeal := hPickRefIdeal) (hPre_idx_names_labels := hPre_idx_names_labels)
-- ==== Pre_idx_names_labels.lean ====
abbrev S64x3 : Shape := ⟨2, ![64, 3]⟩
abbrev S1024x23040 : Shape := ⟨2, ![1024, 23040]⟩
abbrev S_ : Shape := ⟨0, ![]⟩

class Facts : Prop where
  bcast_S_S64x3 : S_.BroadcastsInDim S64x3 (![] : Fin 0 → Fin S64x3.rank)

variable [Facts]

def fn {F : FTy → Type} [FloatOps F] (main_arg0 : IVec S64x3 32) (main_arg1 : FVec F S1024x23040 .f32) : IVec S64x3 1 :=
  let main_c : IVec S_ 32 := constantI S_ 32 0#32
  let main_v0 : IVec S64x3 32 := broadcastInDim S64x3 ![] bcast_S_S64x3 main_c
  let main_v1 : IVec S64x3 1 := cmpi .sge main_arg0 main_v0
  let main_c_0 : IVec S_ 32 := constantI S_ 32 1024#32
  let main_v2 : IVec S64x3 32 := broadcastInDim S64x3 ![] bcast_S_S64x3 main_c_0
  let main_v3 : IVec S64x3 1 := cmpi .slt main_arg0 main_v2
  let main_v4 : IVec S64x3 1 := andi main_v1 main_v3
  main_v4
-- ==== Encode.lean ====
abbrev S64x5x1500x6 : Shape := ⟨4, ![64, 5, 1500, 6]⟩
abbrev S1024x45x512 : Shape := ⟨3, ![1024, 45, 512]⟩
abbrev S45x1500 : Shape := ⟨2, ![45, 1500]⟩
abbrev S45 : Shape := ⟨1, ![45]⟩
abbrev S1024x30 : Shape := ⟨2, ![1024, 30]⟩
abbrev S1024x256 : Shape := ⟨2, ![1024, 256]⟩
abbrev S1024 : Shape := ⟨1, ![1024]⟩
abbrev S64x5x6x1500 : Shape := ⟨4, ![64, 5, 6, 1500]⟩
abbrev S1920x1500 : Shape := ⟨2, ![1920, 1500]⟩
abbrev S1x45 : Shape := ⟨2, ![1, 45]⟩
abbrev S1920x45 : Shape := ⟨2, ![1920, 45]⟩
abbrev S64x30x45 : Shape := ⟨3, ![64, 30, 45]⟩
abbrev S45x64x30 : Shape := ⟨3, ![45, 64, 30]⟩
abbrev S2880x30 : Shape := ⟨2, ![2880, 30]⟩
abbrev S1x1024 : Shape := ⟨2, ![1, 1024]⟩
abbrev S2880x512 : Shape := ⟨2, ![2880, 512]⟩
abbrev S2880x1024 : Shape := ⟨2, ![2880, 1024]⟩
abbrev S64x256 : Shape := ⟨2, ![64, 256]⟩
abbrev S64x1024 : Shape := ⟨2, ![64, 1024]⟩
abbrev S45x64x512 : Shape := ⟨3, ![45, 64, 512]⟩
abbrev S64x45x512 : Shape := ⟨3, ![64, 45, 512]⟩
abbrev S64x23040 : Shape := ⟨2, ![64, 23040]⟩
abbrev S1024x23040 : Shape := ⟨2, ![1024, 23040]⟩
abbrev S128x23040 : Shape := ⟨2, ![128, 23040]⟩
abbrev S64x128 : Shape := ⟨2, ![64, 128]⟩
abbrev S64 : Shape := ⟨1, ![64]⟩
abbrev S64x1 : Shape := ⟨2, ![64, 1]⟩

abbrev nBuf : Space → Nat
  | .hbm => 29
  | .vmem => 22
  | .smem => 0
  | _ => 0

abbrev bufTy : (tb : Table) → Fin (tcTables nBuf tb) → BufTy
  | .hbm, ⟨0, _⟩ => ⟨S64x5x1500x6, .f32⟩
  | .hbm, ⟨1, _⟩ => ⟨S1024x45x512, .f32⟩
  | .hbm, ⟨2, _⟩ => ⟨S45x1500, .f32⟩
  | .hbm, ⟨3, _⟩ => ⟨S45, .f32⟩
  | .hbm, ⟨4, _⟩ => ⟨S1024x30, .f32⟩
  | .hbm, ⟨5, _⟩ => ⟨S1024x256, .f32⟩
  | .hbm, ⟨6, _⟩ => ⟨S1024, .f32⟩
  | .hbm, ⟨7, _⟩ => ⟨S1024, .f32⟩
  | .hbm, ⟨8, _⟩ => ⟨S1024x30, .f32⟩
  | .hbm, ⟨9, _⟩ => ⟨S1024x256, .f32⟩
  | .hbm, ⟨10, _⟩ => ⟨S1024, .f32⟩
  | .hbm, ⟨11, _⟩ => ⟨S1024, .f32⟩
  | .hbm, ⟨12, _⟩ => ⟨S64x5x6x1500, .f32⟩
  | .hbm, ⟨13, _⟩ => ⟨S1920x1500, .f32⟩
  | .hbm, ⟨14, _⟩ => ⟨S1x45, .f32⟩
  | .hbm, ⟨15, _⟩ => ⟨S1920x45, .f32⟩
  | .hbm, ⟨16, _⟩ => ⟨S64x30x45, .f32⟩
  | .hbm, ⟨17, _⟩ => ⟨S45x64x30, .f32⟩
  | .hbm, ⟨18, _⟩ => ⟨S2880x30, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S2880x512, .f32⟩
  | .hbm, ⟨24, _⟩ => ⟨S45x64x512, .f32⟩
  | .hbm, ⟨25, _⟩ => ⟨S64x45x512, .f32⟩
  | .hbm, ⟨26, _⟩ => ⟨S64x23040, .f32⟩
  | .hbm, ⟨27, _⟩ => ⟨S1024x23040, .f32⟩
  | .hbm, ⟨28, _⟩ => ⟨S64x23040, .f32⟩
  | .local _ .vmem, ⟨0, _⟩ => ⟨S1920x1500, .f32⟩
  | .local _ .vmem, ⟨1, _⟩ => ⟨S45x1500, .f32⟩
  | .local _ .vmem, ⟨2, _⟩ => ⟨S1x45, .f32⟩
  | .local _ .vmem, ⟨3, _⟩ => ⟨S1920x45, .f32⟩
  | .local _ .vmem, ⟨4, _⟩ => ⟨S2880x30, .f32⟩
  | .local _ .vmem, ⟨5, _⟩ => ⟨S1024x30, .f32⟩
  | .local _ .vmem, ⟨6, _⟩ => ⟨S1024x256, .f32⟩
  | .local _ .vmem, ⟨7, _⟩ => ⟨S1x1024, .f32⟩
  | .local _ .vmem, ⟨8, _⟩ => ⟨S1x1024, .f32⟩
  | .local _ .vmem, ⟨9, _⟩ => ⟨S1024x30, .f32⟩
  | .local _ .vmem, ⟨10, _⟩ => ⟨S1024x256, .f32⟩
  | .local _ .vmem, ⟨11, _⟩ => ⟨S1x1024, .f32⟩
  | .local _ .vmem, ⟨12, _⟩ => ⟨S1x1024, .f32⟩
  | .local _ .vmem, ⟨13, _⟩ => ⟨S2880x512, .f32⟩
  | .local _ .vmem, ⟨14, _⟩ => ⟨S2880x1024, .f32⟩
  | .local _ .vmem, ⟨15, _⟩ => ⟨S2880x1024, .f32⟩
  | .local _ .vmem, ⟨16, _⟩ => ⟨S64x23040, .f32⟩
  | .local _ .vmem, ⟨17, _⟩ => ⟨S128x23040, .f32⟩
  | .local _ .vmem, ⟨18, _⟩ => ⟨S128x23040, .f32⟩
  | .local _ .vmem, ⟨19, _⟩ => ⟨S64x23040, .f32⟩
  | .local _ .vmem, ⟨20, _⟩ => ⟨S64x1024, .f32⟩
  | .local _ .vmem, ⟨21, _⟩ => ⟨S64x1024, .bf16⟩
  | _, _ => ⟨S64x5x1500x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_stg9_0 : Ref sig .tc := ⟨.vmem, 13, rfl⟩
abbrev cc1_scratch0 : Ref sig .tc := ⟨.vmem, 14, rfl⟩
abbrev cc1_scratch1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_scratch0 : Ref sig .tc := ⟨.vmem, 20, rfl⟩
abbrev cc2_scratch1 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem8_0 : DmaSem sig := 12
abbrev cc1_sem9_0 : DmaSem sig := 13
abbrev cc2_sem0_0 : DmaSem sig := 14
abbrev cc2_sem1_0 : DmaSem sig := 15
abbrev cc2_sem1_1 : DmaSem sig := 16
abbrev cc2_sem2_0 : DmaSem sig := 17

abbrev nD : Nat := 1
abbrev τ : Topo := Topo.v7x

variable {F : FTy → Type} [FloatOps F]

abbrev grid0 : Pipeline.Grid := .none

abbrev stage0_0 : Fin 1 → Memref sig .tc .vmem S1920x1500 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S45x1500 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x45 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1920x45 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := .none

@[reducible] def k1_t1_loop : Scf.Loop 32 :=
  let c0_i32 : BitVec 32 := 0#32
  let c45_i32 : BitVec 32 := 45#32
  let v27 : BitVec 32 := Scalar.addi c0_i32 c45_i32
  let c1_i32 : BitVec 32 := 1#32
  ⟨c0_i32, v27, c1_i32⟩
def k1_off1 (k1_t1 : Fin k1_t1_loop.trips) : Fin 2 → Nat :=
  let c0_i32 : BitVec 32 := 0#32
  let c1_i32 : BitVec 32 := 1#32
  let arg12 : BitVec 32 := Scf.iv c0_i32 c1_i32 k1_t1
  let c64_i32 : BitVec 32 := 64#32
  let v30 : BitVec 32 := Scalar.muli arg12 c64_i32
  let v31 : Index := Scalar.indexCast v30
  let c0_24 : Index := 0#32
  ![v31.toNat, 0]
def k1_off2 (k1_t1 : Fin k1_t1_loop.trips) : Fin 2 → Nat :=
  let c44_i32 : BitVec 32 := 44#32
  let c0_i32 : BitVec 32 := 0#32
  let c1_i32 : BitVec 32 := 1#32
  let arg12 : BitVec 32 := Scf.iv c0_i32 c1_i32 k1_t1
  let v29 : BitVec 32 := Scalar.subi c44_i32 arg12
  let c64_i32_26 : BitVec 32 := 64#32
  let v54 : BitVec 32 := Scalar.muli v29 c64_i32_26
  let v55 : Index := Scalar.indexCast v54
  let c0_27 : Index := 0#32
  ![v55.toNat, 0]
def k1_off3 (k1_t1 : Fin k1_t1_loop.trips) : Fin 2 → Nat :=
  let c0_i32 : BitVec 32 := 0#32
  let c1_i32 : BitVec 32 := 1#32
  let arg12 : BitVec 32 := Scf.iv c0_i32 c1_i32 k1_t1
  let c64_i32_29 : BitVec 32 := 64#32
  let v78 : BitVec 32 := Scalar.muli arg12 c64_i32_29
  let v79 : Index := Scalar.indexCast v78
  let c0_30 : Index := 0#32
  ![v79.toNat, 0]
def k1_off4 (k1_t1 : Fin k1_t1_loop.trips) : Fin 2 → Nat :=
  let c44_i32 : BitVec 32 := 44#32
  let c0_i32 : BitVec 32 := 0#32
  let c1_i32 : BitVec 32 := 1#32
  let arg12 : BitVec 32 := Scf.iv c0_i32 c1_i32 k1_t1
  let v29 : BitVec 32 := Scalar.subi c44_i32 arg12
  let c64_i32_31 : BitVec 32 := 64#32
  let v81 : BitVec 32 := Scalar.muli v29 c64_i32_31
  let v82 : Index := Scalar.indexCast v81
  let c256 : Index := 256#32
  ![v82.toNat, 256]
abbrev stage1_0 : Fin 1 → Memref sig .tc .vmem S2880x30 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x30 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1024x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1024x30 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1024x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S2880x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev grid2 : Pipeline.Grid := ⟨2, ![2, 8], ![false, false]⟩

def k2_cond1 (i : grid2.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_1 : BitVec 32 := 0#32
  let v4 : BitVec 1 := Scalar.cmpi .ne v3 c0_i32_1
  v4

def k2_mult1 (i : grid2.Coords) : BitVec 32 :=
  let arg1 : BitVec 32 := BitVec.ofNat 32 (i 1).val
  let c128_i32 : BitVec 32 := 128#32
  let v20 : BitVec 32 := Scalar.muli arg1 c128_i32
  v20
def k2_off1 (i : grid2.Coords) : Fin 2 → Nat :=
  let c0_8 : Index := 0#32
  let arg1 : BitVec 32 := BitVec.ofNat 32 (i 1).val
  let c128_i32 : BitVec 32 := 128#32
  let v20 : BitVec 32 := Scalar.muli arg1 c128_i32
  let v21 : BitVec 32 := v20
  let v22 : Index := Scalar.indexCast v21
  ![0, v22.toNat]
def k2_cond3 (i : grid2.Coords) : BitVec 1 :=
  let arg0 : BitVec 32 := BitVec.ofNat 32 (i 0).val
  let c1_i32 : BitVec 32 := 1#32
  let v10 : BitVec 1 := Scalar.cmpi .eq arg0 c1_i32
  let v11 : BitVec 32 := Scalar.extui v10
  let c0_i32_4 : BitVec 32 := 0#32
  let v12 : BitVec 1 := Scalar.cmpi .ne v11 c0_i32_4
  v12

def k2_mult2 (i : grid2.Coords) : BitVec 32 :=
  let arg1 : BitVec 32 := BitVec.ofNat 32 (i 1).val
  let c128_i32 : BitVec 32 := 128#32
  let v13 : BitVec 32 := Scalar.muli arg1 c128_i32
  v13
def k2_off2 (i : grid2.Coords) : Fin 2 → Nat :=
  let c0_5 : Index := 0#32
  let arg1 : BitVec 32 := BitVec.ofNat 32 (i 1).val
  let c128_i32 : BitVec 32 := 128#32
  let v13 : BitVec 32 := Scalar.muli arg1 c128_i32
  let v14 : BitVec 32 := v13
  let v15 : Index := Scalar.indexCast v14
  ![0, v15.toNat]
def k2_cond2 (i : grid2.Coords) : BitVec 1 :=
  let arg0 : BitVec 32 := BitVec.ofNat 32 (i 0).val
  let c0_i32_2 : BitVec 32 := 0#32
  let v5 : BitVec 1 := Scalar.cmpi .eq arg0 c0_i32_2
  let arg1 : BitVec 32 := BitVec.ofNat 32 (i 1).val
  let c7_i32 : BitVec 32 := 7#32
  let v6 : BitVec 1 := Scalar.cmpi .eq arg1 c7_i32
  let v7 : BitVec 1 := Scalar.andi v5 v6
  let v8 : BitVec 32 := Scalar.extui v7
  let c0_i32_3 : BitVec 32 := 0#32
  let v9 : BitVec 1 := Scalar.cmpi .ne v8 c0_i32_3
  v9

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x23040 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S128x23040 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S64x23040 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]
-- ==== EncodeIdeal.lean ====
variable {F : FTy → Type} [FloatOps F] [Named F]
def κ : String → Option EReal := fun
  | "scale" => some (((Real.sqrt 512)⁻¹ : ℝ) : EReal)
  | _ => none
-- ==== EncodeRefIdeal.lean ====
abbrev S64x5x1500x6 : Shape := ⟨4, ![64, 5, 1500, 6]⟩
abbrev S1024x45x512 : Shape := ⟨3, ![1024, 45, 512]⟩
abbrev S45x1500 : Shape := ⟨2, ![45, 1500]⟩
abbrev S45 : Shape := ⟨1, ![45]⟩
abbrev S1024x30 : Shape := ⟨2, ![1024, 30]⟩
abbrev S1024x256 : Shape := ⟨2, ![1024, 256]⟩
abbrev S1024 : Shape := ⟨1, ![1024]⟩
abbrev S64x1500x5x6 : Shape := ⟨4, ![64, 1500, 5, 6]⟩
abbrev S64x1500x30 : Shape := ⟨3, ![64, 1500, 30]⟩
abbrev S64x30x1500 : Shape := ⟨3, ![64, 30, 1500]⟩
abbrev S1500x45 : Shape := ⟨2, ![1500, 45]⟩
abbrev S64x30x45 : Shape := ⟨3, ![64, 30, 45]⟩
abbrev S1x1x45 : Shape := ⟨3, ![1, 1, 45]⟩
abbrev S64x45x30 : Shape := ⟨3, ![64, 45, 30]⟩
abbrev S1x64x45x30 : Shape := ⟨4, ![1, 64, 45, 30]⟩
abbrev S2x64x45x30 : Shape := ⟨4, ![2, 64, 45, 30]⟩
abbrev S1x1024x30 : Shape := ⟨3, ![1, 1024, 30]⟩
abbrev S2x1024x30 : Shape := ⟨3, ![2, 1024, 30]⟩
abbrev S1x1024x256 : Shape := ⟨3, ![1, 1024, 256]⟩
abbrev S2x1024x256 : Shape := ⟨3, ![2, 1024, 256]⟩
abbrev S1x1024 : Shape := ⟨2, ![1, 1024]⟩
abbrev S2x1024 : Shape := ⟨2, ![2, 1024]⟩
abbrev S_ : Shape := ⟨0, ![]⟩
abbrev S64x256 : Shape := ⟨2, ![64, 256]⟩
abbrev S2x45x64x30 : Shape := ⟨4, ![2, 45, 64, 30]⟩
abbrev S2x64x256 : Shape := ⟨3, ![2, 64, 256]⟩
abbrev S45x2x64x30 : Shape := ⟨4, ![45, 2, 64, 30]⟩
abbrev S45x2x64x256 : Shape := ⟨4, ![45, 2, 64, 256]⟩
abbrev S1x2x64x30 : Shape := ⟨4, ![1, 2, 64, 30]⟩
abbrev S2x64x30 : Shape := ⟨3, ![2, 64, 30]⟩
abbrev S2x30x1024 : Shape := ⟨3, ![2, 30, 1024]⟩
abbrev S2x64x1024 : Shape := ⟨3, ![2, 64, 1024]⟩
abbrev S2x256x1024 : Shape := ⟨3, ![2, 256, 1024]⟩
abbrev S2x1x1024 : Shape := ⟨3, ![2, 1, 1024]⟩
abbrev S1x2x64x256 : Shape := ⟨4, ![1, 2, 64, 256]⟩
abbrev S2x64x45x256 : Shape := ⟨4, ![2, 64, 45, 256]⟩
abbrev S1x64x45x256 : Shape := ⟨4, ![1, 64, 45, 256]⟩
abbrev S64x45x256 : Shape := ⟨3, ![64, 45, 256]⟩
abbrev S64x45x512 : Shape := ⟨3, ![64, 45, 512]⟩
abbrev S64x1024 : Shape := ⟨2, ![64, 1024]⟩
abbrev S64 : Shape := ⟨1, ![64]⟩
abbrev S64x1 : Shape := ⟨2, ![64, 1]⟩
abbrev S1024x23040 : Shape := ⟨2, ![1024, 23040]⟩
abbrev S64x23040 : Shape := ⟨2, ![64, 23040]⟩

abbrev nBuf : Space → Nat
  | .hbm => 144
  | .vmem => 0
  | .smem => 0
  | _ => 0

abbrev hbmTy0_0 (i : Nat) : BufTy := match i % 128 with
  | 0 => ⟨S64x5x1500x6, .f32⟩
  | 1 => ⟨S1024x45x512, .f32⟩
  | 2 => ⟨S45x1500, .f32⟩
  | 3 => ⟨S45, .f32⟩
  | 4 => ⟨S1024x30, .f32⟩
  | 5 => ⟨S1024x256, .f32⟩
  | 6 => ⟨S1024, .f32⟩
  | 7 => ⟨S1024, .f32⟩
  | 8 => ⟨S1024x30, .f32⟩
  | 9 => ⟨S1024x256, .f32⟩
  | 10 => ⟨S1024, .f32⟩
  | 11 => ⟨S1024, .f32⟩
  | 12 => ⟨S64x1500x5x6, .f32⟩
  | 13 => ⟨S64x1500x30, .f32⟩
  | 14 => ⟨S64x30x1500, .f32⟩
  | 15 => ⟨S1500x45, .f32⟩
  | 16 => ⟨S64x30x45, .f32⟩
  | 17 => ⟨S1x1x45, .f32⟩
  | 18 => ⟨S64x30x45, .f32⟩
  | 19 => ⟨S64x30x45, .f32⟩
  | 20 => ⟨S64x45x30, .f32⟩
  | 21 => ⟨S64x45x30, .f32⟩
  | 22 => ⟨S1x64x45x30, .f32⟩
  | 23 => ⟨S1x64x45x30, .f32⟩
  | 24 => ⟨S2x64x45x30, .f32⟩
  | 25 => ⟨S1x1024x30, .f32⟩
  | 26 => ⟨S1x1024x30, .f32⟩
  | 27 => ⟨S2x1024x30, .f32⟩
  | 28 => ⟨S1x1024x256, .f32⟩
  | 29 => ⟨S1x1024x256, .f32⟩
  | 30 => ⟨S2x1024x256, .f32⟩
  | 31 => ⟨S1x1024, .f32⟩
  | 32 => ⟨S1x1024, .f32⟩
  | 33 => ⟨S2x1024, .f32⟩
  | 34 => ⟨S1x1024, .f32⟩
  | 35 => ⟨S1x1024, .f32⟩
  | 36 => ⟨S2x1024, .f32⟩
  | 37 => ⟨S_, .f32⟩
  | 38 => ⟨S64x256, .f32⟩
  | 39 => ⟨S_, .f32⟩
  | 40 => ⟨S64x256, .f32⟩
  | 41 => ⟨S2x45x64x30, .f32⟩
  | 42 => ⟨S2x64x256, .f32⟩
  | 43 => ⟨S2x64x256, .f32⟩
  | 44 => ⟨S45x2x64x30, .f32⟩
  | 45 => ⟨S_, .f32⟩
  | 46 => ⟨S45x2x64x256, .f32⟩
  | 47 => ⟨S_, .i32⟩
  | 48 => ⟨S45x2x64x30, .f32⟩
  | 49 => ⟨S2x1024x30, .f32⟩
  | 50 => ⟨S2x1024x256, .f32⟩
  | 51 => ⟨S2x1024, .f32⟩
  | 52 => ⟨S2x1024, .f32⟩
  | 53 => ⟨S_, .i32⟩
  | 54 => ⟨S2x64x256, .f32⟩
  | 55 => ⟨S2x64x256, .f32⟩
  | 56 => ⟨S45x2x64x256, .f32⟩
  | 57 => ⟨S_, .i32⟩
  | 58 => ⟨S_, .i1⟩
  | 59 => ⟨S_, .i32⟩
  | 60 => ⟨S_, .i32⟩
  | 61 => ⟨S_, .i32⟩
  | 62 => ⟨S1x2x64x30, .f32⟩
  | 63 => ⟨S2x64x30, .f32⟩
  | 64 => ⟨S2x30x1024, .f32⟩
  | 65 => ⟨S2x64x1024, .f32⟩
  | 66 => ⟨S2x256x1024, .f32⟩
  | 67 => ⟨S2x64x1024, .f32⟩
  | 68 => ⟨S2x64x1024, .f32⟩
  | 69 => ⟨S2x1x1024, .f32⟩
  | 70 => ⟨S2x64x1024, .f32⟩
  | 71 => ⟨S2x64x1024, .f32⟩
  | 72 => ⟨S2x1x1024, .f32⟩
  | 73 => ⟨S2x64x1024, .f32⟩
  | 74 => ⟨S2x64x1024, .f32⟩
  | 75 => ⟨S2x64x256, .f32⟩
  | 76 => ⟨S2x64x256, .f32⟩
  | 77 => ⟨S2x64x256, .f32⟩
  | 78 => ⟨S2x64x256, .f32⟩
  | 79 => ⟨S2x64x256, .f32⟩
  | 80 => ⟨S2x64x256, .f32⟩
  | 81 => ⟨S_, .f32⟩
  | 82 => ⟨S2x64x256, .f32⟩
  | 83 => ⟨S2x64x256, .f32⟩
  | 84 => ⟨S_, .f32⟩
  | 85 => ⟨S2x64x256, .f32⟩
  | 86 => ⟨S2x64x256, .f32⟩
  | 87 => ⟨S2x64x256, .f32⟩
  | 88 => ⟨S2x64x256, .f32⟩
  | 89 => ⟨S_, .f32⟩
  | 90 => ⟨S2x64x256, .f32⟩
  | 91 => ⟨S2x64x256, .f32⟩
  | 92 => ⟨S_, .f32⟩
  | 93 => ⟨S2x64x256, .f32⟩
  | 94 => ⟨S2x64x256, .f32⟩
  | 95 => ⟨S2x64x256, .f32⟩
  | 96 => ⟨S2x64x256, .f32⟩
  | 97 => ⟨S2x64x256, .f32⟩
  | 98 => ⟨S_, .f32⟩
  | 99 => ⟨S2x64x256, .f32⟩
  | 100 => ⟨S2x64x256, .f32⟩
  | 101 => ⟨S_, .f32⟩
  | 102 => ⟨S2x64x256, .f32⟩
  | 103 => ⟨S2x64x256, .f32⟩
  | 104 => ⟨S2x64x256, .f32⟩
  | 105 => ⟨S2x64x256, .f32⟩
  | 106 => ⟨S2x64x256, .f32⟩
  | 107 => ⟨S2x64x256, .f32⟩
  | 108 => ⟨S2x64x256, .f32⟩
  | 109 => ⟨S1x2x64x256, .f32⟩
  | 110 => ⟨S_, .i32⟩
  | 111 => ⟨S_, .i32⟩
  | 112 => ⟨S_, .i32⟩
  | 113 => ⟨S45x2x64x256, .f32⟩
  | 114 => ⟨S_, .i32⟩
  | 115 => ⟨S_, .i32⟩
  | 116 => ⟨S2x64x45x256, .f32⟩
  | 117 => ⟨S1x64x45x256, .f32⟩
  | 118 => ⟨S64x45x256, .f32⟩
  | 119 => ⟨S1x64x45x256, .f32⟩
  | 120 => ⟨S64x45x256, .f32⟩
  | 121 => ⟨S64x45x256, .f32⟩
  | 122 => ⟨S64x45x512, .f32⟩
  | 123 => ⟨S64x1024, .f32⟩
  | 124 => ⟨S_, .f32⟩
  | 125 => ⟨S_, .f32⟩
  | 126 => ⟨S64x1024, .f32⟩
  | 127 => ⟨S64x1024, .f32⟩
  | _ => ⟨S64x5x1500x6, .f32⟩

abbrev hbmTy0_1 (i : Nat) : BufTy := match i % 128 with
  | 0 => ⟨S_, .f32⟩
  | 1 => ⟨S64, .f32⟩
  | 2 => ⟨S_, .f32⟩
  | 3 => ⟨S64, .f32⟩
  | 4 => ⟨S64, .f32⟩
  | 5 => ⟨S64x1, .f32⟩
  | 6 => ⟨S64x1024, .f32⟩
  | 7 => ⟨S64x1024, .f32⟩
  | 8 => ⟨S64x1024, .f32⟩
  | 9 => ⟨S_, .f32⟩
  | 10 => ⟨S64, .f32⟩
  | 11 => ⟨S64x1, .f32⟩
  | 12 => ⟨S64x1024, .f32⟩
  | 13 => ⟨S64x1024, .f32⟩
  | 14 => ⟨S1024x23040, .f32⟩
  | 15 => ⟨S64x23040, .f32⟩
  | _ => ⟨S64x5x1500x6, .f32⟩

abbrev hbmTy (i : Nat) : BufTy := match i / 128 with
  | 0 => hbmTy0_0 i
  | 1 => hbmTy0_1 i
  | _ => ⟨S64x5x1500x6, .f32⟩

abbrev bufTy : (tb : Table) → Fin (tcTables nBuf tb) → BufTy
  | .hbm, ⟨i, _⟩ => hbmTy i
  | _, _ => ⟨S64x5x1500x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst : Ref sig .tc := ⟨.hbm, 37, rfl⟩
abbrev main_v25 : Ref sig .tc := ⟨.hbm, 38, rfl⟩
abbrev main_cst_0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_1 : Ref sig .tc := ⟨.hbm, 45, rfl⟩
abbrev main_v31 : Ref sig .tc := ⟨.hbm, 46, rfl⟩
abbrev main_c : Ref sig .tc := ⟨.hbm, 47, rfl⟩
abbrev main_v32_0 : Ref sig .tc := ⟨.hbm, 48, rfl⟩
abbrev main_v32_1 : Ref sig .tc := ⟨.hbm, 49, rfl⟩
abbrev main_v32_2 : Ref sig .tc := ⟨.hbm, 50, rfl⟩
abbrev main_v32_3 : Ref sig .tc := ⟨.hbm, 51, rfl⟩
abbrev main_v32_4 : Ref sig .tc := ⟨.hbm, 52, rfl⟩
abbrev main_v32_5 : Ref sig .tc := ⟨.hbm, 53, rfl⟩
abbrev main_v32_6 : Ref sig .tc := ⟨.hbm, 54, rfl⟩
abbrev main_v32_7 : Ref sig .tc := ⟨.hbm, 55, rfl⟩
abbrev main_v32_8 : Ref sig .tc := ⟨.hbm, 56, rfl⟩
abbrev main_while0c_c_14 : Ref sig .tc := ⟨.hbm, 57, rfl⟩
abbrev main_while0c_v57 : Ref sig .tc := ⟨.hbm, 58, rfl⟩
abbrev main_while0b_call1_c : Ref sig .tc := ⟨.hbm, 59, rfl⟩
abbrev main_while0b_call1_c_0 : Ref sig .tc := ⟨.hbm, 60, rfl⟩
abbrev main_while0b_call1_c_1 : Ref sig .tc := ⟨.hbm, 61, rfl⟩
abbrev main_while0b_call1_v0 : Ref sig .tc := ⟨.hbm, 62, rfl⟩
abbrev main_while0b_v57 : Ref sig .tc := ⟨.hbm, 63, rfl⟩
abbrev main_while0b_v58 : Ref sig .tc := ⟨.hbm, 64, rfl⟩
abbrev main_while0b_v59 : Ref sig .tc := ⟨.hbm, 65, rfl⟩
abbrev main_while0b_v60 : Ref sig .tc := ⟨.hbm, 66, rfl⟩
abbrev main_while0b_v61 : Ref sig .tc := ⟨.hbm, 67, rfl⟩
abbrev main_while0b_v62 : Ref sig .tc := ⟨.hbm, 68, rfl⟩
abbrev main_while0b_v63 : Ref sig .tc := ⟨.hbm, 69, rfl⟩
abbrev main_while0b_v64 : Ref sig .tc := ⟨.hbm, 70, rfl⟩
abbrev main_while0b_v65 : Ref sig .tc := ⟨.hbm, 71, rfl⟩
abbrev main_while0b_v66 : Ref sig .tc := ⟨.hbm, 72, rfl⟩
abbrev main_while0b_v67 : Ref sig .tc := ⟨.hbm, 73, rfl⟩
abbrev main_while0b_v68 : Ref sig .tc := ⟨.hbm, 74, rfl⟩
abbrev main_while0b_v69 : Ref sig .tc := ⟨.hbm, 75, rfl⟩
abbrev main_while0b_v70 : Ref sig .tc := ⟨.hbm, 76, rfl⟩
abbrev main_while0b_v71 : Ref sig .tc := ⟨.hbm, 77, rfl⟩
abbrev main_while0b_v72 : Ref sig .tc := ⟨.hbm, 78, rfl⟩
abbrev main_while0b_v73 : Ref sig .tc := ⟨.hbm, 79, rfl⟩
abbrev main_while0b_v74 : Ref sig .tc := ⟨.hbm, 80, rfl⟩
abbrev main_while0b_cst_14 : Ref sig .tc := ⟨.hbm, 81, rfl⟩
abbrev main_while0b_v75 : Ref sig .tc := ⟨.hbm, 82, rfl⟩
abbrev main_while0b_v76 : Ref sig .tc := ⟨.hbm, 83, rfl⟩
abbrev main_while0b_cst_15 : Ref sig .tc := ⟨.hbm, 84, rfl⟩
abbrev main_while0b_v77 : Ref sig .tc := ⟨.hbm, 85, rfl⟩
abbrev main_while0b_v78 : Ref sig .tc := ⟨.hbm, 86, rfl⟩
abbrev main_while0b_v79 : Ref sig .tc := ⟨.hbm, 87, rfl⟩
abbrev main_while0b_v80 : Ref sig .tc := ⟨.hbm, 88, rfl⟩
abbrev main_while0b_cst_16 : Ref sig .tc := ⟨.hbm, 89, rfl⟩
abbrev main_while0b_v81 : Ref sig .tc := ⟨.hbm, 90, rfl⟩
abbrev main_while0b_v82 : Ref sig .tc := ⟨.hbm, 91, rfl⟩
abbrev main_while0b_cst_17 : Ref sig .tc := ⟨.hbm, 92, rfl⟩
abbrev main_while0b_v83 : Ref sig .tc := ⟨.hbm, 93, rfl⟩
abbrev main_while0b_v84 : Ref sig .tc := ⟨.hbm, 94, rfl⟩
abbrev main_while0b_v85 : Ref sig .tc := ⟨.hbm, 95, rfl⟩
abbrev main_while0b_v86 : Ref sig .tc := ⟨.hbm, 96, rfl⟩
abbrev main_while0b_v87 : Ref sig .tc := ⟨.hbm, 97, rfl⟩
abbrev main_while0b_cst_18 : Ref sig .tc := ⟨.hbm, 98, rfl⟩
abbrev main_while0b_v88 : Ref sig .tc := ⟨.hbm, 99, rfl⟩
abbrev main_while0b_v89 : Ref sig .tc := ⟨.hbm, 100, rfl⟩
abbrev main_while0b_cst_19 : Ref sig .tc := ⟨.hbm, 101, rfl⟩
abbrev main_while0b_v90 : Ref sig .tc := ⟨.hbm, 102, rfl⟩
abbrev main_while0b_v91 : Ref sig .tc := ⟨.hbm, 103, rfl⟩
abbrev main_while0b_v92 : Ref sig .tc := ⟨.hbm, 104, rfl⟩
abbrev main_while0b_v93 : Ref sig .tc := ⟨.hbm, 105, rfl⟩
abbrev main_while0b_v94 : Ref sig .tc := ⟨.hbm, 106, rfl⟩
abbrev main_while0b_v95 : Ref sig .tc := ⟨.hbm, 107, rfl⟩
abbrev main_while0b_v96 : Ref sig .tc := ⟨.hbm, 108, rfl⟩
abbrev main_while0b_call2_v0 : Ref sig .tc := ⟨.hbm, 109, rfl⟩
abbrev main_while0b_call2_c : Ref sig .tc := ⟨.hbm, 110, rfl⟩
abbrev main_while0b_call2_c_0 : Ref sig .tc := ⟨.hbm, 111, rfl⟩
abbrev main_while0b_call2_c_1 : Ref sig .tc := ⟨.hbm, 112, rfl⟩
abbrev main_while0b_v97 : Ref sig .tc := ⟨.hbm, 113, rfl⟩
abbrev main_while0b_c_20 : Ref sig .tc := ⟨.hbm, 114, rfl⟩
abbrev main_while0b_v98 : Ref sig .tc := ⟨.hbm, 115, rfl⟩
abbrev main_v33 : Ref sig .tc := ⟨.hbm, 116, rfl⟩
abbrev main_v34 : Ref sig .tc := ⟨.hbm, 117, rfl⟩
abbrev main_v35 : Ref sig .tc := ⟨.hbm, 118, rfl⟩
abbrev main_v36 : Ref sig .tc := ⟨.hbm, 119, rfl⟩
abbrev main_v37 : Ref sig .tc := ⟨.hbm, 120, rfl⟩
abbrev main_v38 : Ref sig .tc := ⟨.hbm, 121, rfl⟩
abbrev main_v39 : Ref sig .tc := ⟨.hbm, 122, rfl⟩
abbrev main_v40 : Ref sig .tc := ⟨.hbm, 123, rfl⟩
abbrev main_cst_2 : Ref sig .tc := ⟨.hbm, 124, rfl⟩
abbrev main_v41 : Ref sig .tc := ⟨.hbm, 125, rfl⟩
abbrev main_v42 : Ref sig .tc := ⟨.hbm, 126, rfl⟩
abbrev main_v43 : Ref sig .tc := ⟨.hbm, 127, rfl⟩
abbrev main_cst_3 : Ref sig .tc := ⟨.hbm, 128, rfl⟩
abbrev main_v44 : Ref sig .tc := ⟨.hbm, 129, rfl⟩
abbrev main_cst_4 : Ref sig .tc := ⟨.hbm, 130, rfl⟩
abbrev main_v45 : Ref sig .tc := ⟨.hbm, 131, rfl⟩
abbrev main_v46 : Ref sig .tc := ⟨.hbm, 132, rfl⟩
abbrev main_v47 : Ref sig .tc := ⟨.hbm, 133, rfl⟩
abbrev main_v48 : Ref sig .tc := ⟨.hbm, 134, rfl⟩
abbrev main_v49 : Ref sig .tc := ⟨.hbm, 135, rfl⟩
abbrev main_v50 : Ref sig .tc := ⟨.hbm, 136, rfl⟩
abbrev main_cst_5 : Ref sig .tc := ⟨.hbm, 137, rfl⟩
abbrev main_v51 : Ref sig .tc := ⟨.hbm, 138, rfl⟩
abbrev main_v52 : Ref sig .tc := ⟨.hbm, 139, rfl⟩
abbrev main_v53 : Ref sig .tc := ⟨.hbm, 140, rfl⟩
abbrev main_v54 : Ref sig .tc := ⟨.hbm, 141, rfl⟩
abbrev main_v55 : Ref sig .tc := ⟨.hbm, 142, rfl⟩
abbrev main_v56 : Ref sig .tc := ⟨.hbm, 143, rfl⟩

abbrev nD : Nat := 1
abbrev τ : Topo := Topo.v7x

variable {F : FTy → Type} [FloatOps F]

abbrev main_while0_count : Scf.Loop 32 := ⟨0#32, 45#32, 1#32⟩
-- ==== Rank.lean ====
abbrev S64x23040 : Shape := ⟨2, ![64, 23040]⟩
abbrev S1024x23040 : Shape := ⟨2, ![1024, 23040]⟩
abbrev S64x128 : Shape := ⟨2, ![64, 128]⟩
abbrev S128x23040 : Shape := ⟨2, ![128, 23040]⟩
abbrev S64x1024 : Shape := ⟨2, ![64, 1024]⟩
abbrev S64 : Shape := ⟨1, ![64]⟩
abbrev S64x1 : Shape := ⟨2, ![64, 1]⟩
abbrev S128 : Shape := ⟨1, ![128]⟩
abbrev S128x1 : Shape := ⟨2, ![128, 1]⟩
abbrev S64x3 : Shape := ⟨2, ![64, 3]⟩

abbrev nBuf : Space → Nat
  | .hbm => 4
  | .vmem => 5
  | .smem => 0
  | _ => 0

abbrev bufTy : (tb : Table) → Fin (tcTables nBuf tb) → BufTy
  | .hbm, ⟨0, _⟩ => ⟨S64x23040, .f32⟩
  | .hbm, ⟨1, _⟩ => ⟨S1024x23040, .f32⟩
  | .hbm, ⟨2, _⟩ => ⟨S64x128, .i32⟩
  | .hbm, ⟨3, _⟩ => ⟨S64x3, .i32⟩
  | .local _ .vmem, ⟨0, _⟩ => ⟨S64x23040, .f32⟩
  | .local _ .vmem, ⟨1, _⟩ => ⟨S128x23040, .f32⟩
  | .local _ .vmem, ⟨2, _⟩ => ⟨S128x23040, .f32⟩
  | .local _ .vmem, ⟨3, _⟩ => ⟨S64x128, .i32⟩
  | .local _ .vmem, ⟨4, _⟩ => ⟨S64x1024, .f32⟩
  | _, _ => ⟨S64x23040, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c128_i32 : BitVec 32 := 128#32
  let v21 : BitVec 32 := Scalar.muli arg0 c128_i32
  v21
def k0_off1 (i : grid0.Coords) : Fin 2 → Nat :=
  let c0_7 : Index := 0#32
  let arg0 : BitVec 32 := BitVec.ofNat 32 (i 0).val
  let c128_i32 : BitVec 32 := 128#32
  let v21 : BitVec 32 := Scalar.muli arg0 c128_i32
  let v22 : BitVec 32 := v21
  let v23 : Index := Scalar.indexCast v22
  ![0, v23.toNat]
def k0_cond1 (i : grid0.Coords) : BitVec 1 :=
  let arg0 : BitVec 32 := BitVec.ofNat 32 (i 0).val
  let c7_i32 : BitVec 32 := 7#32
  let v27 : BitVec 1 := Scalar.cmpi .eq arg0 c7_i32
  let v28 : BitVec 32 := Scalar.extui v27
  let c0_i32 : BitVec 32 := 0#32
  let v29 : BitVec 1 := Scalar.cmpi .ne v28 c0_i32
  v29

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x23040 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x23040 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== RankRefIdeal.lean ====
abbrev S64x23040 : Shape := ⟨2, ![64, 23040]⟩
abbrev S1024x23040 : Shape := ⟨2, ![1024, 23040]⟩
abbrev S_ : Shape := ⟨0, ![]⟩
abbrev S64 : Shape := ⟨1, ![64]⟩
abbrev S64x1 : Shape := ⟨2, ![64, 1]⟩
abbrev S1024 : Shape := ⟨1, ![1024]⟩
abbrev S1024x1 : Shape := ⟨2, ![1024, 1]⟩
abbrev S23040x1024 : Shape := ⟨2, ![23040, 1024]⟩
abbrev S64x1024 : Shape := ⟨2, ![64, 1024]⟩
abbrev S64x3 : Shape := ⟨2, ![64, 3]⟩

abbrev nBuf : Space → Nat
  | .hbm => 26
  | .vmem => 0
  | .smem => 0
  | _ => 0

abbrev bufTy : (tb : Table) → Fin (tcTables nBuf tb) → BufTy
  | .hbm, ⟨0, _⟩ => ⟨S64x23040, .f32⟩
  | .hbm, ⟨1, _⟩ => ⟨S1024x23040, .f32⟩
  | .hbm, ⟨2, _⟩ => ⟨S64x23040, .f32⟩
  | .hbm, ⟨3, _⟩ => ⟨S_, .f32⟩
  | .hbm, ⟨4, _⟩ => ⟨S64, .f32⟩
  | .hbm, ⟨5, _⟩ => ⟨S64x1, .f32⟩
  | .hbm, ⟨6, _⟩ => ⟨S64x1, .f32⟩
  | .hbm, ⟨7, _⟩ => ⟨S_, .f32⟩
  | .hbm, ⟨8, _⟩ => ⟨S64x1, .f32⟩
  | .hbm, ⟨9, _⟩ => ⟨S64x1, .f32⟩
  | .hbm, ⟨10, _⟩ => ⟨S1024x23040, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S1024x1, .f32⟩
  | .hbm, ⟨15, _⟩ => ⟨S_, .f32⟩
  | .hbm, ⟨16, _⟩ => ⟨S1024x1, .f32⟩
  | .hbm, ⟨17, _⟩ => ⟨S1024x1, .f32⟩
  | .hbm, ⟨18, _⟩ => ⟨S64x23040, .f32⟩
  | .hbm, ⟨19, _⟩ => ⟨S64x23040, .f32⟩
  | .hbm, ⟨20, _⟩ => ⟨S1024x23040, .f32⟩
  | .hbm, ⟨21, _⟩ => ⟨S1024x23040, .f32⟩
  | .hbm, ⟨22, _⟩ => ⟨S23040x1024, .f32⟩
  | .hbm, ⟨23, _⟩ => ⟨S64x1024, .f32⟩
  | .hbm, ⟨24, _⟩ => ⟨S64x3, .f32⟩
  | .hbm, ⟨25, _⟩ => ⟨S64x3, .i32⟩
  | _, _ => ⟨S64x23040, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_values : Ref sig .tc := ⟨.hbm, 24, rfl⟩
abbrev main_indices : Ref sig .tc := ⟨.hbm, 25, rfl⟩

abbrev nD : Nat := 1
abbrev τ : Topo := Topo.v7x

variable {F : FTy → Type} [FloatOps F]
-- ==== Pick.lean ====
abbrev S64x3 : Shape := ⟨2, ![64, 3]⟩
abbrev S1024x23040 : Shape := ⟨2, ![1024, 23040]⟩
abbrev S192 : Shape := ⟨1, ![192]⟩
abbrev S1024x180x128 : Shape := ⟨3, ![1024, 180, 128]⟩
abbrev S192x180x128 : Shape := ⟨3, ![192, 180, 128]⟩
abbrev S1x180x128 : Shape := ⟨3, ![1, 180, 128]⟩
abbrev S1 : Shape := ⟨1, ![1]⟩
abbrev S64x135x512 : Shape := ⟨3, ![64, 135, 512]⟩

abbrev nBuf : Space → Nat
  | .hbm => 5
  | .vmem => 4
  | .smem => 1
  | _ => 0

abbrev bufTy : (tb : Table) → Fin (tcTables nBuf tb) → BufTy
  | .hbm, ⟨0, _⟩ => ⟨S64x3, .i32⟩
  | .hbm, ⟨1, _⟩ => ⟨S1024x23040, .f32⟩
  | .hbm, ⟨2, _⟩ => ⟨S1024x180x128, .f32⟩
  | .hbm, ⟨3, _⟩ => ⟨S192x180x128, .f32⟩
  | .hbm, ⟨4, _⟩ => ⟨S64x135x512, .f32⟩
  | .local _ .vmem, ⟨0, _⟩ => ⟨S1x180x128, .f32⟩
  | .local _ .vmem, ⟨1, _⟩ => ⟨S1x180x128, .f32⟩
  | .local _ .vmem, ⟨2, _⟩ => ⟨S1x180x128, .f32⟩
  | .local _ .vmem, ⟨3, _⟩ => ⟨S1x180x128, .f32⟩
  | .local _ .smem, ⟨0, _⟩ => ⟨S192, .i32⟩
  | _, _ => ⟨S64x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![192], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S192.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S192) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x180x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x180x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PickRefIdeal.lean ====
abbrev S64x3 : Shape := ⟨2, ![64, 3]⟩
abbrev S1024x23040 : Shape := ⟨2, ![1024, 23040]⟩
abbrev S_ : Shape := ⟨0, ![]⟩
abbrev S64x3x1 : Shape := ⟨3, ![64, 3, 1]⟩
abbrev S1 : Shape := ⟨1, ![1]⟩
abbrev S1x1x1 : Shape := ⟨3, ![1, 1, 1]⟩
abbrev S64x3x23040 : Shape := ⟨3, ![64, 3, 23040]⟩
abbrev S64x135x512 : Shape := ⟨3, ![64, 135, 512]⟩

abbrev nBuf : Space → Nat
  | .hbm => 26
  | .vmem => 0
  | .smem => 0
  | _ => 0

abbrev bufTy : (tb : Table) → Fin (tcTables nBuf tb) → BufTy
  | .hbm, ⟨0, _⟩ => ⟨S64x3, .i32⟩
  | .hbm, ⟨1, _⟩ => ⟨S1024x23040, .f32⟩
  | .hbm, ⟨2, _⟩ => ⟨S_, .i32⟩
  | .hbm, ⟨3, _⟩ => ⟨S64x3, .i32⟩
  | .hbm, ⟨4, _⟩ => ⟨S64x3, .i1⟩
  | .hbm, ⟨5, _⟩ => ⟨S_, .i32⟩
  | .hbm, ⟨6, _⟩ => ⟨S64x3, .i32⟩
  | .hbm, ⟨7, _⟩ => ⟨S64x3, .i32⟩
  | .hbm, ⟨8, _⟩ => ⟨S64x3, .i32⟩
  | .hbm, ⟨9, _⟩ => ⟨S64x3x1, .i32⟩
  | .hbm, ⟨10, _⟩ => ⟨S1, .i32⟩
  | .hbm, ⟨11, _⟩ => ⟨S_, .i32⟩
  | .hbm, ⟨12, _⟩ => ⟨S64x3x1, .i32⟩
  | .hbm, ⟨13, _⟩ => ⟨S64x3x1, .i1⟩
  | .hbm, ⟨14, _⟩ => ⟨S1x1x1, .i32⟩
  | .hbm, ⟨15, _⟩ => ⟨S64x3x1, .i32⟩
  | .hbm, ⟨16, _⟩ => ⟨S64x3x1, .i1⟩
  | .hbm, ⟨17, _⟩ => ⟨S64x3x1, .i1⟩
  | .hbm, ⟨18, _⟩ => ⟨S_, .i1⟩
  | .hbm, ⟨19, _⟩ => ⟨S64x3, .i1⟩
  | .hbm, ⟨20, _⟩ => ⟨S64x3x23040, .f32⟩
  | .hbm, ⟨21, _⟩ => ⟨S64x3x23040, .i1⟩
  | .hbm, ⟨22, _⟩ => ⟨S_, .f32⟩
  | .hbm, ⟨23, _⟩ => ⟨S64x3x23040, .f32⟩
  | .hbm, ⟨24, _⟩ => ⟨S64x3x23040, .f32⟩
  | .hbm, ⟨25, _⟩ => ⟨S64x135x512, .f32⟩
  | _, _ => ⟨S64x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Proof.Linear.lean ====
module

public import proofs.«01_k».proof.Proof.Gen.EncodeIdeal.Launch
public import proofs.«01_k».proof.Proof.Gen.EncodeIdeal.Skeleton
public import proofs.«01_k».proof.Proof.Gen.EncodeIdeal.Points
public import Idealize.ShloMosaic.Lib.Pipeline.FrameBody
public import Idealize.ShloMosaic.Lib.Pipeline.ValueKit
public import Idealize.ShloMosaic.Lib.Pointwise
public import Idealize.ShloMosaic.Lib.VecWindow
public import Idealize.ShloMosaic.Lib.Tactic

@[expose] public section

set_option maxRecDepth 16384

noncomputable section

namespace Cert.EncodeIdeal.Body

open Cert.EncodeIdeal Cert.EncodeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The linear layer's body: the result's buffer ends at the product plus the bias. -/
theorem run_linear (c : Dev nD) (E : Set ℕ) (arg0 : Memref sig .tc .vmem S1920x1500 .f32) (harg0 : arg0.IsWhole) (arg1 : Memref sig .tc .vmem S45x1500 .f32) (harg1 : arg1.IsWhole) (arg2 : Memref sig .tc .vmem S1x45 .f32) (harg2 : arg2.IsWhole) (arg3 : Memref sig .tc .vmem S1920x45 .f32) (harg3 : arg3.IsWhole)
    (x0 : Vec F S1920x1500 .f32) (x1 : Vec F S45x1500 .f32) (x2 : Vec F S1x45 .f32) (x3 : Vec F S1920x45 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (iprop(owns (c : Thread nD τ) arg0 fullShare x0 ∗ owns (c : Thread nD τ) arg1 fullShare x1 ∗ owns (c : Thread nD τ) arg2 fullShare x2 ∗ owns (c : Thread nD τ) arg3 fullShare (k0_pay1 x0 x1 x2)) -∗ K ⟨⟩))
      ⊢ wp frame (wpE (defs₀ (F := F)) Variants.none c none) E (cc0__linear_body arg0 harg0 arg1 harg1 arg2 harg2 arg3 harg3) K := by
  simp only [cc0__linear_body_eq_skeleton]; unfold cc0__linear_body_skel
  unfold owns
  iintro ⟨⟨%f0, %hf0, H0⟩, ⟨%f1, %hf1, H1⟩, ⟨%f2, %hf2, H2⟩, ⟨%f3, %hf3, H3⟩, Hk⟩
  obtain rfl := harg0.eq_unread hf0; obtain rfl := harg1.eq_unread hf1; obtain rfl := harg2.eq_unread hf2
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  iexists _; isplitr; swap; · iexact H3
  ipureintro
  rw [View.read_writes_full, View.readAt_full, View.readAt_full, View.readAt_full, hf0, hf1, hf2]

section
variable (V : (c : Dev nD) → (b : Ref sig .tc) → Buf (Elt F) ((c : Thread nD τ).loc b))

/-- The block of window `w` of the linear call. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem hindex0 : win0_0.index t0_0 = ![0, 0] ∧ win0_1.index t0_0 = ![0, 0] ∧ win0_2.index t0_0 = ![0, 0] ∧ win0_3.index t0_0 = ![0, 0] := by
  decide +kernel

theorem blk0_x (c : Dev nD) (t : Fin cfg0.N) : blk0 V c 0 t = V c main_v1 := by
  obtain rfl := fin_N0 t; funext j; blk_ext [blk0, hindex0]
theorem blk0_w (c : Dev nD) (t : Fin cfg0.N) : blk0 V c 1 t = V c main_arg2 := by
  obtain rfl := fin_N0 t; funext j; blk_ext [blk0, hindex0]
theorem blk0_b (c : Dev nD) (t : Fin cfg0.N) : blk0 V c 2 t = V c main_v2 := by
  obtain rfl := fin_N0 t; funext j; blk_ext [blk0, hindex0]

/-- The proof data of the linear call. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => k0_pay1 (V c main_v1) (V c main_arg2) (V c main_v2)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_in (c : Dev nD) (t : Fin cfg0.N) :
    (dat0 V c).after 0 t = V c main_v1 ∧ (dat0 V c).after 1 t = V c main_arg2 ∧ (dat0 V c).after 2 t = V c main_v2 := by
  rw [← blk0_x V c t, ← blk0_w V c t, ← blk0_b V c t]; dsimp only [dat0]; exact ⟨rfl, rfl, rfl⟩
theorem after0_out (c : Dev nD) (t : Fin cfg0.N) : (dat0 V c).after 3 t = k0_pay1 (V c main_v1) (V c main_arg2) (V c main_v2) := by
  dsimp only [dat0]

/-! An input window of the linear call holds its block when the body is entered. -/
theorem before0_0 (c : Dev nD) (t : Fin cfg0.N) (d) : (dat0 V c).before 0 t d = V c main_v1 :=
  ((dat0 V c).before_in_eq_fetched 0 rfl (fun _ => rfl) (fun _ _ _ => rfl) (fun _ => rfl) t d).trans (blk0_x V c t)
theorem before0_1 (c : Dev nD) (t : Fin cfg0.N) (d) : (dat0 V c).before 1 t d = V c main_arg2 :=
  ((dat0 V c).before_in_eq_fetched 1 rfl (fun _ => rfl) (fun _ _ _ => rfl) (fun _ => rfl) t d).trans (blk0_w V c t)
theorem before0_2 (c : Dev nD) (t : Fin cfg0.N) (d) : (dat0 V c).before 2 t d = V c main_v2 :=
  ((dat0 V c).before_in_eq_fetched 2 rfl (fun _ => rfl) (fun _ _ _ => rfl) (fun _ => rfl) t d).trans (blk0_b V c t)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    (after0_in V c t).1, (after0_in V c t).2.1, (after0_in V c t).2.2, after0_out]
  iintro ⟨HΦ, Ho, ⟨%d0, H0⟩, ⟨%d1, H1⟩, ⟨%d2, H2⟩, ⟨%d3, H3⟩⟩
  iapply (run_linear c Set.univ _ _ _ _ _ _ _ _ (V c main_v1) (V c main_arg2) (V c main_v2) _ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the linear call leaves in its result's array. -/
theorem final0 (c : Dev nD) : (dat0 V c).arrAt 3 cfg0.N = k0_pay1 (V c main_v1) (V c main_arg2) (V c main_v2) := by
  refine (dat0 V c).arrAt_eq_of_after_last 3 t0_0 (by decide +kernel) _ fun j => ?_
  blk_simp [hindex0]
  rw [after0_out]

end

end Cert.EncodeIdeal.Body

end
-- ==== Proof.Lstm.lean ====
module

public import proofs.«01_k».proof.Proof.Gen.EncodeIdeal.Launch
public import proofs.«01_k».proof.Proof.Gen.EncodeIdeal.Skeleton
public import proofs.«01_k».proof.Proof.Gen.EncodeIdeal.Points
public import Idealize.ShloMosaic.Lib.Pipeline.FrameBody
public import Idealize.ShloMosaic.Lib.Pipeline.ValueKit
public import Idealize.ShloMosaic.Lib.Pointwise
public import Idealize.ShloMosaic.Lib.VecWindow
public import Idealize.ShloMosaic.Lib.Exec
public import Idealize.ShloMosaic.Lib.Tactic

@[expose] public section

set_option maxRecDepth 16384

noncomputable section

namespace Cert.EncodeIdeal.Body

open Cert.EncodeIdeal Cert.EncodeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the recurrence carries: the forward and the backward hidden and cell states. -/
abbrev Carry (F : FTy → Type) [FloatOps F] [Named F] : Type :=
  FVec F S64x256 .f32 × FVec F S64x256 .f32 × FVec F S64x256 .f32 × FVec F S64x256 .f32

/-- Time step `k`'s rows of the input products. -/
def rows (x : Vec F S2880x1024 .f32) (k : ℕ) : Vec F S64x1024 .f32 :=
  fun j => x (ix2 (⟨k % 45 * 64 + (j 0 : ℕ), by have := (j 0).isLt; change (j 0 : ℕ) < 64 at this; omega⟩ : Fin 2880) (j 1))

section
variable (v16 : Vec F S1024x256 .f32) (v17 : Vec F S1024x256 .f32) (v18 : Vec F S1x1024 .f32) (v20 : Vec F S1x1024 .f32) (v22 : Vec F S1x1024 .f32) (v24 : Vec F S1x1024 .f32)
  (xf xb : Vec F S2880x1024 .f32)

/-- One trip of the recurrence: a cell step forward at time `k`, and one backward at time `44 - k`. -/
def trip (k : ℕ) (a : Carry F) : Carry F :=
  (k1_pay3 v16 (k1_pay10 v18) (k1_pay11 v20) a.1 a.2.1 (rows xf k), k1_pay2 v16 (k1_pay10 v18) (k1_pay11 v20) a.1 a.2.1 (rows xf k),
    k1_pay6 v17 (k1_pay12 v22) (k1_pay13 v24) a.2.2.1 a.2.2.2 (rows xb (44 - k)), k1_pay5 v17 (k1_pay12 v22) (k1_pay13 v24) a.2.2.1 a.2.2.2 (rows xb (44 - k)))

/-- The states after `k` trips. -/
def carry (a : Carry F) : ℕ → Carry F
  | 0 => a
  | k + 1 => trip v16 v17 v18 v20 v22 v24 xf xb k (carry a k)

/-- The result's buffer after `k` trips: each trip has put its two blocks of rows. -/
def filled (a : Carry F) (o : Vec F S2880x512 .f32) : ℕ → Vec F S2880x512 .f32
  | 0 => o
  | k + 1 => VecWindow.put (VecWindow.put (filled a o k) ![64 * k, 0] S64x256.size (carry v16 v17 v18 v20 v22 v24 xf xb a (k + 1)).1)
      ![2816 - 64 * k, 256] S64x256.size (carry v16 v17 v18 v20 v22 v24 xf xb a (k + 1)).2.2.1

end

/-- The recurrent layers' result: row block `t` holds the forward state after trip `t` and the backward state after trip `44 - t`. -/
def states (v16 v17 : Vec F S1024x256 .f32) (v18 v20 v22 v24 : Vec F S1x1024 .f32) (xf xb : Vec F S2880x1024 .f32) (a : Carry F) : Vec F S2880x512 .f32 :=
  fun j => if h : (j 1 : ℕ) < 256 then
      (carry v16 v17 v18 v20 v22 v24 xf xb a ((j 0 : ℕ) / 64 + 1)).1 (ix2 (⟨(j 0 : ℕ) % 64, Nat.mod_lt _ (by decide)⟩ : Fin 64) (⟨(j 1 : ℕ), h⟩ : Fin 256))
    else (carry v16 v17 v18 v20 v22 v24 xf xb a (45 - (j 0 : ℕ) / 64)).2.2.1
      (ix2 (⟨(j 0 : ℕ) % 64, Nat.mod_lt _ (by decide)⟩ : Fin 64) (⟨(j 1 : ℕ) - 256, by have := (j 1).isLt; change (j 1 : ℕ) < 512 at this; omega⟩ : Fin 256))

/-- After `n` trips the blocks met so far hold the states. -/
theorem filled_states (v16 v17 : Vec F S1024x256 .f32) (v18 v20 v22 v24 : Vec F S1x1024 .f32) (xf xb : Vec F S2880x1024 .f32) (a : Carry F) (o : Vec F S2880x512 .f32) :
    ∀ n ≤ 45, ∀ j : S2880x512.Idx, ((j 1 : ℕ) < 256 ∧ (j 0 : ℕ) / 64 < n ∨ 256 ≤ (j 1 : ℕ) ∧ 45 - n ≤ (j 0 : ℕ) / 64) →
      filled v16 v17 v18 v20 v22 v24 xf xb a o n j = states v16 v17 v18 v20 v22 v24 xf xb a j := by
  intro n
  induction n with
  | zero =>
    intro _ j hj
    have : (j 0 : ℕ) < 2880 := (j 0).isLt
    omega
  | succ n ih =>
    intro hn j hj
    have h0 : (j 0 : ℕ) < 2880 := (j 0).isLt
    have h1 : (j 1 : ℕ) < 512 := (j 1).isLt
    unfold filled
    by_cases hb : 256 ≤ (j 1 : ℕ) ∧ (j 0 : ℕ) / 64 = 44 - n
    · have hall : ∀ i, (![2816 - 64 * n, 256] : Fin 2 → ℕ) i ≤ (j i).val ∧ (j i).val < (![2816 - 64 * n, 256] : Fin 2 → ℕ) i + S64x256.size i := by
        intro i
        match i with
        | ⟨0, _⟩ => exact ⟨by show 2816 - 64 * n ≤ (j 0).val; omega, by show (j 0).val < 2816 - 64 * n + 64; omega⟩
        | ⟨1, _⟩ => exact ⟨by show 256 ≤ (j 1).val; omega, by show (j 1).val < 256 + 256; omega⟩
      unfold VecWindow.put states
      rw [dif_pos hall, dif_neg (by omega), show 45 - (j 0 : ℕ) / 64 = n + 1 by omega]
      refine congrArg _ (funext fun i => Fin.ext ?_)
      match i with
      | ⟨0, _⟩ => show (j 0).val - (2816 - 64 * n) = (j 0).val % 64; omega
      | ⟨1, _⟩ => rfl
    have hall : ¬∀ i, (![2816 - 64 * n, 256] : Fin 2 → ℕ) i ≤ (j i).val ∧ (j i).val < (![2816 - 64 * n, 256] : Fin 2 → ℕ) i + S64x256.size i := by
      intro hall
      have e0 := hall 0; have e1 := (hall 1).1
      change 2816 - 64 * n ≤ (j 0).val ∧ (j 0).val < 2816 - 64 * n + 64 at e0
      change 256 ≤ (j 1).val at e1
      omega
    rw [VecWindow.put, dif_neg hall]
    by_cases hf : (j 1 : ℕ) < 256 ∧ (j 0 : ℕ) / 64 = n
    · have hall : ∀ i, (![64 * n, 0] : Fin 2 → ℕ) i ≤ (j i).val ∧ (j i).val < (![64 * n, 0] : Fin 2 → ℕ) i + S64x256.size i := by
        intro i
        match i with
        | ⟨0, _⟩ => exact ⟨by show 64 * n ≤ (j 0).val; omega, by show (j 0).val < 64 * n + 64; omega⟩
        | ⟨1, _⟩ => exact ⟨Nat.zero_le _, by show (j 1).val < 0 + 256; omega⟩
      unfold VecWindow.put states
      rw [dif_pos hall, dif_pos hf.1, show (j 0 : ℕ) / 64 + 1 = n + 1 by omega]
      refine congrArg _ (funext fun i => Fin.ext ?_)
      match i with
      | ⟨0, _⟩ => show (j 0).val - 64 * n = (j 0).val % 64; omega
      | ⟨1, _⟩ => rfl
    have hall : ¬∀ i, (![64 * n, 0] : Fin 2 → ℕ) i ≤ (j i).val ∧ (j i).val < (![64 * n, 0] : Fin 2 → ℕ) i + S64x256.size i := by
      intro hall
      have e0 := hall 0; have e1 := (hall 1).2
      change 64 * n ≤ (j 0).val ∧ (j 0).val < 64 * n + 64 at e0
      change (j 1).val < 0 + 256 at e1
      omega
    rw [VecWindow.put, dif_neg hall]
    exact ih (by omega) j (by omega)

theorem filled_all (v16 v17 : Vec F S1024x256 .f32) (v18 v20 v22 v24 : Vec F S1x1024 .f32) (xf xb : Vec F S2880x1024 .f32) (a : Carry F) (o : Vec F S2880x512 .f32) :
    filled v16 v17 v18 v20 v22 v24 xf xb a o 45 = states v16 v17 v18 v20 v22 v24 xf xb a :=
  funext fun j => filled_states v16 v17 v18 v20 v22 v24 xf xb a o 45 le_rfl j (by
    have : (j 0 : ℕ) < 2880 := (j 0).isLt
    omega)

/-- The rows a trip loads. -/
theorem window_rows (x : Vec F S2880x1024 .f32) (n : ℕ) (hn : n < 45) (off : Fin 2 → ℕ) (h : off = ![64 * n, 0]) (inb) :
    VecWindow.window x off S64x1024.size inb = rows x n := by
  subst h
  funext j
  unfold VecWindow.window rows
  refine congrArg x (funext fun a => Fin.ext ?_)
  match a with
  | ⟨0, _⟩ => show 64 * n + 1 * (j 0).val = n % 45 * 64 + (j 0).val; omega
  | ⟨1, _⟩ => show 0 + 1 * (j 1).val = (j 1).val; omega

section
variable (arg0 : Memref sig .tc .vmem S2880x30 .f32) (harg0 : arg0.IsWhole) (arg1 : Memref sig .tc .vmem S1024x30 .f32) (harg1 : arg1.IsWhole) (arg2 : Memref sig .tc .vmem S1024x256 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x30 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S2880x512 .f32) (harg9 : arg9.IsWhole) (arg10 : Memref sig .tc .vmem S2880x1024 .f32) (harg10 : arg10.IsWhole) (arg11 : Memref sig .tc .vmem S2880x1024 .f32) (harg11 : arg11.IsWhole)
  (v16 : Vec F S1024x256 .f32) (v17 : Vec F S1024x256 .f32) (v18 : Vec F S1x1024 .f32) (v20 : Vec F S1x1024 .f32) (v22 : Vec F S1x1024 .f32) (v24 : Vec F S1x1024 .f32)

set_option maxHeartbeats 2000000 in
/-- One trip on the buffers: the two blocks of rows are put, the input products stay. -/
theorem run_trip (c : Dev nD) (E : Set ℕ) (X10 : BufTy.Contents (Elt F) arg10.view.ty) (X11 : BufTy.Contents (Elt F) arg11.view.ty) (f9 : BufTy.Contents (Elt F) arg9.view.ty)
    (k : Fin k1_t1_loop.trips) (a : Carry F) :
    (iprop((arg10.view.loc (c : Thread nD τ) ↦[arg10.view.set]{fullShare} X10) ∗ (arg11.view.loc (c : Thread nD τ) ↦[arg11.view.set]{fullShare} X11)
        ∗ (arg9.view.loc (c : Thread nD τ) ↦[arg9.view.set]{fullShare} f9)) : sProp 𝕄)
      ⊢ wp frame (wpE (defs₀ (F := F)) Variants.none (c : Thread nD τ) none) E
          (k1_t1_body (F := F) arg0 harg0 arg1 harg1 arg2 harg2 arg3 harg3 arg4 harg4 arg5 harg5 arg6 harg6 arg7 harg7 arg8 harg8 arg9 harg9 arg10 harg10 arg11 harg11 v16 v17 v18 v20 v22 v24 k a)
          (fun y => iprop(⌜y = trip v16 v17 v18 v20 v22 v24 (arg10.view.read (Elt F) X10) (arg11.view.read (Elt F) X11) k.val a⌝
            ∗ (arg10.view.loc (c : Thread nD τ) ↦[arg10.view.set]{fullShare} X10) ∗ (arg11.view.loc (c : Thread nD τ) ↦[arg11.view.set]{fullShare} X11)
            ∗ (∃ f, (arg9.view.loc (c : Thread nD τ) ↦[arg9.view.set]{fullShare} f) ∗ ⌜arg9.view.read (Elt F) f
              = VecWindow.put (VecWindow.put (arg9.view.read (Elt F) f9) ![64 * k.val, 0] S64x256.size (trip v16 v17 v18 v20 v22 v24 (arg10.view.read (Elt F) X10) (arg11.view.read (Elt F) X11) k.val a).1)
                ![2816 - 64 * k.val, 256] S64x256.size (trip v16 v17 v18 v20 v22 v24 (arg10.view.read (Elt F) X10) (arg11.view.read (Elt F) X11) k.val a).2.2.1⌝))) := by
  have hk : k.val < 45 := Nat.lt_of_lt_of_le k.isLt k1_t1_abs.2.1
  have h1 : ∀ i, arg10.view.readAt (Elt F) (Rect.unit (s := S2880x1024) (k1_off1 k) S64x1024.size i).toLoadRect X10 = rows (arg10.view.read (Elt F) X10) k.val := fun i => by
    rw [View.readAt_unit _ _ _ (k1_off1_eq k) (fun a => by have := k1_off1_inb k a; rwa [k1_off1_eq k] at this), window_rows _ k.val hk _ rfl]
  have h2 : ∀ i, arg11.view.readAt (Elt F) (Rect.unit (s := S2880x1024) (k1_off2 k) S64x1024.size i).toLoadRect X11 = rows (arg11.view.read (Elt F) X11) (44 - k.val) := fun i => by
    rw [View.readAt_unit _ _ _ (k1_off2_eq k) (fun a => by have := k1_off2_inb k a; rwa [k1_off2_eq k] at this), window_rows _ (44 - k.val) (by omega) _ (by rw [show 64 * (44 - k.val) = 2816 - 64 * k.val by omega])]
  obtain ⟨a1, a2, a3, a4⟩ := a
  unfold k1_t1_body
  iintro ⟨H10, H11, H9⟩
  sl_exec
  sl_step
  isplitr
  · ipureintro
    unfold trip
    unfold run_trip.sl.v53 run_trip.sl.v77 run_trip.sl.v48 run_trip.sl.v52 run_trip.sl.v72 run_trip.sl.v76 run_trip.sl.v47 run_trip.sl.v51 run_trip.sl.v71 run_trip.sl.v75 run_trip.sl.v49 run_trip.sl.v50 run_trip.sl.v73 run_trip.sl.v74 run_trip.sl.v44 run_trip.sl.v42 run_trip.sl.v46 run_trip.sl.v68 run_trip.sl.v66 run_trip.sl.v70 run_trip.sl.v43 run_trip.sl.v41 run_trip.sl.v45 run_trip.sl.v67 run_trip.sl.v65 run_trip.sl.v69 run_trip.sl.v40 run_trip.sl.v64 run_trip.sl.v38 run_trip.sl.v39 run_trip.sl.v62 run_trip.sl.v63 run_trip.sl.v36 run_trip.sl.v37 run_trip.sl.v60 run_trip.sl.v61 run_trip.sl.v35 run_trip.sl.v59
    rfl
  isplitl [H10]; · iexact H10
  isplitl [H11]; · iexact H11
  iexists _; isplitl [H9]; · iexact H9
  ipureintro
  unfold trip
  rw [View.read_writes_cons_put _ _ _ _ _ (k1_off4_eq k), View.read_writes_cons_put _ _ _ _ _ (k1_off3_eq k), View.writes_nil]
  unfold run_trip.sl.v53 run_trip.sl.v77 run_trip.sl.v48 run_trip.sl.v52 run_trip.sl.v72 run_trip.sl.v76 run_trip.sl.v47 run_trip.sl.v51 run_trip.sl.v71 run_trip.sl.v75 run_trip.sl.v49 run_trip.sl.v50 run_trip.sl.v73 run_trip.sl.v74 run_trip.sl.v44 run_trip.sl.v42 run_trip.sl.v46 run_trip.sl.v68 run_trip.sl.v66 run_trip.sl.v70 run_trip.sl.v43 run_trip.sl.v41 run_trip.sl.v45 run_trip.sl.v67 run_trip.sl.v65 run_trip.sl.v69 run_trip.sl.v40 run_trip.sl.v64 run_trip.sl.v38 run_trip.sl.v39 run_trip.sl.v62 run_trip.sl.v63 run_trip.sl.v36 run_trip.sl.v37 run_trip.sl.v60 run_trip.sl.v61 run_trip.sl.v35 run_trip.sl.v59
  rfl

set_option warn.classDefReducibility false in
/-- The recurrence by its invariant. -/
@[sl_loop] def loop (c : Dev nD) (E : Set ℕ) (X10 : BufTy.Contents (Elt F) arg10.view.ty) (X11 : BufTy.Contents (Elt F) arg11.view.ty) (G9 : BufTy.Contents (Elt F) arg9.view.ty)
    (a : Carry F) :
    Idealize.ShloMosaic.LoopInv (M := 𝕄) Idealize.ShloMosaic.frame (wpE (defs₀ (F := F)) Variants.none (c : Thread nD τ) none) E
      k1_t1_loop.lb k1_t1_loop.ub k1_t1_loop.st k1_t1_ok a
      (k1_t1_body (F := F) arg0 harg0 arg1 harg1 arg2 harg2 arg3 harg3 arg4 harg4 arg5 harg5 arg6 harg6 arg7 harg7 arg8 harg8 arg9 harg9 arg10 harg10 arg11 harg11 v16 v17 v18 v20 v22 v24) where
  inv k y := iprop((arg10.view.loc (c : Thread nD τ) ↦[arg10.view.set]{fullShare} X10) ∗ (arg11.view.loc (c : Thread nD τ) ↦[arg11.view.set]{fullShare} X11)
    ∗ (∃ f, (arg9.view.loc (c : Thread nD τ) ↦[arg9.view.set]{fullShare} f) ∗ ⌜arg9.view.read (Elt F) f
        = filled v16 v17 v18 v20 v22 v24 (arg10.view.read (Elt F) X10) (arg11.view.read (Elt F) X11) a (arg9.view.read (Elt F) G9) k⌝)
    ∗ ⌜y = carry v16 v17 v18 v20 v22 v24 (arg10.view.read (Elt F) X10) (arg11.view.read (Elt F) X11) a k⌝)
  step k y := by
    iintro ⟨H10, H11, ⟨%f, H9, %hf⟩, %hy⟩
    subst hy
    iapply (wp_wand_r Idealize.ShloMosaic.frame (wpE (defs₀ (F := F)) Variants.none (c : Thread nD τ) none) E)
    isplitl [H10 H11 H9]
    · iapply (run_trip arg0 harg0 arg1 harg1 arg2 harg2 arg3 harg3 arg4 harg4 arg5 harg5 arg6 harg6 arg7 harg7 arg8 harg8 arg9 harg9 arg10 harg10 arg11 harg11 v16 v17 v18 v20 v22 v24 c E X10 X11 f k _)
      isplitl [H10]; · iexact H10
      isplitl [H11]; · iexact H11
      iexact H9
    · iintro %y ⟨%hy, H10, H11, ⟨%f', H9, %hf'⟩⟩
      isplitl [H10]; · iexact H10
      isplitl [H11]; · iexact H11
      isplitl [H9]
      · iexists _; isplitl [H9]; · iexact H9
        ipureintro; rw [hf', hf]; rfl
      ipureintro; rw [hy]; rfl

set_option maxHeartbeats 2000000 in
/-- The recurrent layers' body. -/
theorem run_lstm (c : Dev nD) (E : Set ℕ)
    (x0 : Vec F S2880x30 .f32) (x1 : Vec F S1024x30 .f32) (x2 : Vec F S1024x256 .f32) (x3 : Vec F S1x1024 .f32) (x4 : Vec F S1x1024 .f32) (x5 : Vec F S1024x30 .f32) (x6 : Vec F S1024x256 .f32) (x7 : Vec F S1x1024 .f32) (x8 : Vec F S1x1024 .f32) (x9 : Vec F S2880x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
            ∗ owns (c : Thread nD τ) arg9 fullShare (states x2 x6 x3 x4 x7 x8 (k1_pay8 x0 x1) (k1_pay9 x0 x5) (k1_pay14, k1_pay14, k1_pay14, k1_pay14))
            ∗ (∃ d, owns (c : Thread nD τ) arg10 fullShare d) ∗ (∃ d, owns (c : Thread nD τ) arg11 fullShare d)) -∗ K ⟨⟩))
      ⊢ wp frame (wpE (defs₀ (F := F)) Variants.none c none) E (cc1__lstm_body arg0 harg0 arg1 harg1 arg2 harg2 arg3 harg3 arg4 harg4 arg5 harg5 arg6 harg6 arg7 harg7 arg8 harg8 arg9 harg9 arg10 harg10 arg11 harg11) K := by
  simp only [cc1__lstm_body_eq_skeleton]; unfold cc1__lstm_body_skel
  simp only [k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, Hk⟩
  obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    rw [hL3]
    unfold run_lstm.sl.HS0_1 run_lstm.sl.HS1_1
    rw [View.read_writes_full, View.read_writes_full]
    rw [View.readAt_full, View.readAt_full, View.readAt_full, View.readAt_full, View.readAt_full, View.readAt_full, View.readAt_full, View.readAt_full, View.readAt_full, hf0, hf1, hf2, hf3, hf4, hf5, hf6, hf7, hf8]
    rw [show Scf.trips k1_t1_loop.lb k1_t1_loop.ub k1_t1_loop.st = 45 by decide +kernel]
    exact filled_all (F := F) _ _ _ _ _ _ _ _ _ _
  isplitl [HS0]
  · iexists _, _; isplitr; swap; · iexact HS0
    ipureintro; rfl
  iexists _, _; isplitr; swap; · iexact HS1
  ipureintro; rfl

end

section
variable (V : (c : Dev nD) → (b : Ref sig .tc) → Buf (Elt F) ((c : Thread nD τ).loc b))

/-- The block of window `w` of the recurrent call. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem hindex1 : win1_0.index t1_0 = ![0, 0] ∧ win1_1.index t1_0 = ![0, 0] ∧ win1_2.index t1_0 = ![0, 0] ∧ win1_3.index t1_0 = ![0, 0] ∧ win1_4.index t1_0 = ![0, 0] ∧ win1_5.index t1_0 = ![0, 0] ∧ win1_6.index t1_0 = ![0, 0] ∧ win1_7.index t1_0 = ![0, 0] ∧ win1_8.index t1_0 = ![0, 0] ∧ win1_9.index t1_0 = ![0, 0] := by
  decide +kernel

theorem blk1_0 (c : Dev nD) (t : Fin cfg1.N) : blk1 V c 0 t = V c main_v6 := by
  obtain rfl := fin_N1 t; funext j; blk_ext [blk1, hindex1]
theorem blk1_1 (c : Dev nD) (t : Fin cfg1.N) : blk1 V c 1 t = V c main_arg4 := by
  obtain rfl := fin_N1 t; funext j; blk_ext [blk1, hindex1]
theorem blk1_2 (c : Dev nD) (t : Fin cfg1.N) : blk1 V c 2 t = V c main_arg5 := by
  obtain rfl := fin_N1 t; funext j; blk_ext [blk1, hindex1]
theorem blk1_3 (c : Dev nD) (t : Fin cfg1.N) : blk1 V c 3 t = V c main_v7 := by
  obtain rfl := fin_N1 t; funext j; blk_ext [blk1, hindex1]
theorem blk1_4 (c : Dev nD) (t : Fin cfg1.N) : blk1 V c 4 t = V c main_v8 := by
  obtain rfl := fin_N1 t; funext j; blk_ext [blk1, hindex1]
theorem blk1_5 (c : Dev nD) (t : Fin cfg1.N) : blk1 V c 5 t = V c main_arg8 := by
  obtain rfl := fin_N1 t; funext j; blk_ext [blk1, hindex1]
theorem blk1_6 (c : Dev nD) (t : Fin cfg1.N) : blk1 V c 6 t = V c main_arg9 := by
  obtain rfl := fin_N1 t; funext j; blk_ext [blk1, hindex1]
theorem blk1_7 (c : Dev nD) (t : Fin cfg1.N) : blk1 V c 7 t = V c main_v9 := by
  obtain rfl := fin_N1 t; funext j; blk_ext [blk1, hindex1]
theorem blk1_8 (c : Dev nD) (t : Fin cfg1.N) : blk1 V c 8 t = V c main_v10 := by
  obtain rfl := fin_N1 t; funext j; blk_ext [blk1, hindex1]

/-- What the recurrent call leaves. -/
abbrev lstmOut (c : Dev nD) : Vec F S2880x512 .f32 :=
  states (V c main_arg5) (V c main_arg9) (V c main_v7) (V c main_v8) (V c main_v9) (V c main_v10) (k1_pay8 (V c main_v6) (V c main_arg4)) (k1_pay9 (V c main_v6) (V c main_arg8))
    (k1_pay14, k1_pay14, k1_pay14, k1_pay14)

/-- The proof data of the recurrent call. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => lstmOut V c
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = V c main_v6 := by
  rw [← blk1_0 V c t]; dsimp only [dat1]
theorem after1_1 (c : Dev nD) (t : Fin cfg1.N) : (dat1 V c).after 1 t = V c main_arg4 := by
  rw [← blk1_1 V c t]; dsimp only [dat1]
theorem after1_2 (c : Dev nD) (t : Fin cfg1.N) : (dat1 V c).after 2 t = V c main_arg5 := by
  rw [← blk1_2 V c t]; dsimp only [dat1]
theorem after1_3 (c : Dev nD) (t : Fin cfg1.N) : (dat1 V c).after 3 t = V c main_v7 := by
  rw [← blk1_3 V c t]; dsimp only [dat1]
theorem after1_4 (c : Dev nD) (t : Fin cfg1.N) : (dat1 V c).after 4 t = V c main_v8 := by
  rw [← blk1_4 V c t]; dsimp only [dat1]
theorem after1_5 (c : Dev nD) (t : Fin cfg1.N) : (dat1 V c).after 5 t = V c main_arg8 := by
  rw [← blk1_5 V c t]; dsimp only [dat1]
theorem after1_6 (c : Dev nD) (t : Fin cfg1.N) : (dat1 V c).after 6 t = V c main_arg9 := by
  rw [← blk1_6 V c t]; dsimp only [dat1]
theorem after1_7 (c : Dev nD) (t : Fin cfg1.N) : (dat1 V c).after 7 t = V c main_v9 := by
  rw [← blk1_7 V c t]; dsimp only [dat1]
theorem after1_8 (c : Dev nD) (t : Fin cfg1.N) : (dat1 V c).after 8 t = V c main_v10 := by
  rw [← blk1_8 V c t]; dsimp only [dat1]
theorem after1_9 (c : Dev nD) (t : Fin cfg1.N) : (dat1 V c).after 9 t = lstmOut V c := by
  dsimp only [dat1]

/-! An input window of the recurrent call holds its block when the body is entered. -/
theorem before1_0 (c : Dev nD) (t : Fin cfg1.N) (d) : (dat1 V c).before 0 t d = V c main_v6 :=
  ((dat1 V c).before_in_eq_fetched 0 rfl (fun _ => rfl) (fun _ _ _ => rfl) (fun _ => rfl) t d).trans (blk1_0 V c t)
theorem before1_1 (c : Dev nD) (t : Fin cfg1.N) (d) : (dat1 V c).before 1 t d = V c main_arg4 :=
  ((dat1 V c).before_in_eq_fetched 1 rfl (fun _ => rfl) (fun _ _ _ => rfl) (fun _ => rfl) t d).trans (blk1_1 V c t)
theorem before1_2 (c : Dev nD) (t : Fin cfg1.N) (d) : (dat1 V c).before 2 t d = V c main_arg5 :=
  ((dat1 V c).before_in_eq_fetched 2 rfl (fun _ => rfl) (fun _ _ _ => rfl) (fun _ => rfl) t d).trans (blk1_2 V c t)
theorem before1_3 (c : Dev nD) (t : Fin cfg1.N) (d) : (dat1 V c).before 3 t d = V c main_v7 :=
  ((dat1 V c).before_in_eq_fetched 3 rfl (fun _ => rfl) (fun _ _ _ => rfl) (fun _ => rfl) t d).trans (blk1_3 V c t)
theorem before1_4 (c : Dev nD) (t : Fin cfg1.N) (d) : (dat1 V c).before 4 t d = V c main_v8 :=
  ((dat1 V c).before_in_eq_fetched 4 rfl (fun _ => rfl) (fun _ _ _ => rfl) (fun _ => rfl) t d).trans (blk1_4 V c t)
theorem before1_5 (c : Dev nD) (t : Fin cfg1.N) (d) : (dat1 V c).before 5 t d = V c main_arg8 :=
  ((dat1 V c).before_in_eq_fetched 5 rfl (fun _ => rfl) (fun _ _ _ => rfl) (fun _ => rfl) t d).trans (blk1_5 V c t)
theorem before1_6 (c : Dev nD) (t : Fin cfg1.N) (d) : (dat1 V c).before 6 t d = V c main_arg9 :=
  ((dat1 V c).before_in_eq_fetched 6 rfl (fun _ => rfl) (fun _ _ _ => rfl) (fun _ => rfl) t d).trans (blk1_6 V c t)
theorem before1_7 (c : Dev nD) (t : Fin cfg1.N) (d) : (dat1 V c).before 7 t d = V c main_v9 :=
  ((dat1 V c).before_in_eq_fetched 7 rfl (fun _ => rfl) (fun _ _ _ => rfl) (fun _ => rfl) t d).trans (blk1_7 V c t)
theorem before1_8 (c : Dev nD) (t : Fin cfg1.N) (d) : (dat1 V c).before 8 t d = V c main_v10 :=
  ((dat1 V c).before_in_eq_fetched 8 rfl (fun _ => rfl) (fun _ _ _ => rfl) (fun _ => rfl) t d).trans (blk1_8 V c t)

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg3_0), ((c : Thread nD τ).loc cc0_stg3_0) ↦{fullShare} f)
          ∗ (∃ d, owns (c : Thread nD τ) (Memref.whole cc1_scratch0) fullShare d)
          ∗ (∃ d, owns (c : Thread nD τ) (Memref.whole cc1_scratch1) fullShare d)
          ∗ (∃ f : Buf (Elt F) ((c : Thread nD τ).loc cc2_stg0_0), ((c : Thread nD τ).loc cc2_stg0_0) ↦{fullShare} f)
          ∗ (∃ f : Buf (Elt F) ((c : Thread nD τ).loc cc2_stg1_0), ((c : Thread nD τ).loc cc2_stg1_0) ↦{fullShare} f)
          ∗ (∃ f : Buf (Elt F) ((c : Thread nD τ).loc cc2_stg1_1), ((c : Thread nD τ).loc cc2_stg1_1) ↦{fullShare} f)
          ∗ (∃ f : Buf (Elt F) ((c : Thread nD τ).loc cc2_stg2_0), ((c : Thread nD τ).loc cc2_stg2_0) ↦{fullShare} f)
          ∗ (∃ f : Buf (Elt F) ((c : Thread nD τ).loc cc2_scratch0), ((c : Thread nD τ).loc cc2_scratch0) ↦{fullShare} f)
          ∗ (∃ f : Buf (Elt F) ((c : Thread nD τ).loc cc2_scratch1), ((c : Thread nD τ).loc cc2_scratch1) ↦{fullShare} f))
        ∗ (∃ r, prngReg c r)) := by
  unfold Pipeline.ΦA; rw [scopedRest1_eq]; simp only [owns_whole]; try rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1200000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  rw [show (dat1 V c).Φ t.castSucc = Pipeline.ΦA spec1 c from rfl, PhiA1_eq]
  iintro ⟨⟨⟨HR0, HR1, HR2, HR3, HS0, HS1, HR4, HR5, HR6, HR7, HR8, HR9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_lstm _ _ _ _ _ _ _ _ _ _ _ _ _ _ _ _ _ _ _ _ _ _ _ _ c Set.univ (V c main_v6) (V c main_arg4) (V c main_arg5) (V c main_v7) (V c main_v8) (V c main_arg8) (V c main_arg9) (V c main_v9) (V c main_v10) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iintro ⟨H0, H1, H2, H3, H4, H5, H6, H7, H8, H9, HS0, HS1⟩
  isplitl [HR0 HR1 HR2 HR3 HS0 HS1 HR4 HR5 HR6 HR7 HR8 HR9 Hg]
  · isplitl [HR0 HR1 HR2 HR3 HS0 HS1 HR4 HR5 HR6 HR7 HR8 HR9]
    · isplitl [HR0]; · iexact HR0
      isplitl [HR1]; · iexact HR1
      isplitl [HR2]; · iexact HR2
      isplitl [HR3]; · iexact HR3
      isplitl [HS0]; · iexact HS0
      isplitl [HS1]; · iexact HS1
      isplitl [HR4]; · iexact HR4
      isplitl [HR5]; · iexact HR5
      isplitl [HR6]; · iexact HR6
      isplitl [HR7]; · iexact HR7
      isplitl [HR8]; · iexact HR8
      iexact HR9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the recurrent call leaves in its result's array. -/
theorem final1 (c : Dev nD) : (dat1 V c).arrAt 9 cfg1.N = lstmOut V c := by
  refine (dat1 V c).arrAt_eq_of_after_last 9 t1_0 (by decide +kernel) _ fun j => ?_
  blk_simp [hindex1]
  rw [after1_9]

end

end Cert.EncodeIdeal.Body

end
-- ==== Proof.Attn.lean ====
module

public import proofs.«01_k».proof.Proof.Gen.EncodeIdeal.Launch
public import proofs.«01_k».proof.Proof.Gen.EncodeIdeal.Skeleton
public import proofs.«01_k».proof.Proof.Gen.EncodeIdeal.Points
public import Idealize.ShloMosaic.Lib.Pipeline.FrameBody
public import Idealize.ShloMosaic.Lib.Pipeline.ValueKit
public import Idealize.ShloMosaic.Lib.Pointwise
public import Idealize.ShloMosaic.Lib.VecWindow
public import Idealize.ShloMosaic.Lib.Pipeline.TableIdle
public import Idealize.ShloMosaic.Lib.Tactic

@[expose] public section

set_option maxRecDepth 16384

noncomputable section

namespace Cert.EncodeIdeal.Body

open Cert.EncodeIdeal Cert.EncodeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Block `i` of the key matrix: rows `128 i`, …, `128 i + 127`. -/
def chunk (k : Vec F S1024x23040 .f32) (i : ℕ) : Vec F S128x23040 .f32 :=
  fun j => k (ix2 (⟨i % 8 * 128 + (j 0 : ℕ), by have := (j 0).isLt; change (j 0 : ℕ) < 128 at this; omega⟩ : Fin 1024) (j 1))

/-- The score matrix, block of columns by block of columns as the first sweep computes it. -/
def scores (q : Vec F S64x23040 .f32) (k : Vec F S1024x23040 .f32) : Vec F S64x1024 .f32 :=
  fun j => k2_pay2 (chunk k ((j 1 : ℕ) / 128)) q (ix2 (j 0) (⟨(j 1 : ℕ) % 128, Nat.mod_lt _ (by decide)⟩ : Fin 128))

/-- The attention weights: the softmax of the scores, in bf16. -/
def probs (q : Vec F S64x23040 .f32) (k : Vec F S1024x23040 .f32) : Vec F S64x1024 .bf16 := k2_pay3 (scores q k)

/-- Columns `128 i`, …, `128 i + 127` of the weights. -/
def cols (p : Vec F S64x1024 .bf16) (i : ℕ) : Vec F S64x128 .bf16 :=
  fun j => p (ix2 (j 0) (⟨i % 8 * 128 + (j 1 : ℕ), by have := (j 1).isLt; change (j 1 : ℕ) < 128 at this; omega⟩ : Fin 1024))

/-- What the second sweep has accumulated after `n` blocks. -/
def acc (q : Vec F S64x23040 .f32) (k : Vec F S1024x23040 .f32) : ℕ → Vec F S64x23040 .f32
  | 0 => k2_pay4
  | n + 1 => k2_pay5 (chunk k n) (cols (probs q k) n) (acc q k n)

theorem chunk_mod (k : Vec F S1024x23040 .f32) (n : ℕ) (h : 8 ≤ n) : chunk k (n - 8) = chunk k n := by
  unfold chunk
  simp only [show (n - 8) % 8 = n % 8 by omega]
theorem cols_mod (p : Vec F S64x1024 .bf16) (n : ℕ) (h : 8 ≤ n) : cols p (n - 8) = cols p n := by
  unfold cols
  simp only [show (n - 8) % 8 = n % 8 by omega]

abbrev cond1 (i : grid2.Coords) : Prop := k2_cond1 i = 1#1
abbrev cond2 (i : grid2.Coords) : Prop := k2_cond2 i = 1#1
abbrev cond3 (i : grid2.Coords) : Prop := k2_cond3 i = 1#1

theorem hcond1 : ∀ t : Fin cfg2.N, cond1 (grid2.coords t) ↔ t.val < 8 :=
  (by decide +kernel : ∀ t : Fin grid2.N, cond1 (grid2.coords t) ↔ t.val < 8)
theorem hcond2 : ∀ t : Fin cfg2.N, cond2 (grid2.coords t) ↔ t.val = 7 :=
  (by decide +kernel : ∀ t : Fin grid2.N, cond2 (grid2.coords t) ↔ t.val = 7)
theorem hcond3 : ∀ t : Fin cfg2.N, cond3 (grid2.coords t) ↔ 8 ≤ t.val :=
  (by decide +kernel : ∀ t : Fin grid2.N, cond3 (grid2.coords t) ↔ 8 ≤ t.val)
theorem hoff1 : ∀ t : Fin cfg2.N, k2_off1 (grid2.coords t) = ![0, t.val % 8 * 128] :=
  (by decide +kernel : ∀ t : Fin grid2.N, k2_off1 (grid2.coords t) = ![0, t.val % 8 * 128])
theorem hoff2 : ∀ t : Fin cfg2.N, k2_off2 (grid2.coords t) = ![0, t.val % 8 * 128] :=
  (by decide +kernel : ∀ t : Fin grid2.N, k2_off2 (grid2.coords t) = ![0, t.val % 8 * 128])
theorem hidle2 : ∀ t : Fin cfg2.N, cfg2.idle 2 (grid2.coords t) = decide (t.val < 7) :=
  (by decide +kernel : ∀ t : Fin grid2.N, cfg2.idle 2 (grid2.coords t) = decide (t.val < 7))
theorem hfresh2 : ∀ t : Fin cfg2.N, cfg2.fresh 2 t.val = decide (t.val < 8) :=
  (by decide +kernel : ∀ t : Fin grid2.N, cfg2.fresh 2 t.val = decide (t.val < 8))

/-- The score scratch after point `t` of the first sweep has stored its block of columns. -/
abbrev put (s : Vec F S64x1024 .f32) (i : ℕ) (b : Vec F S64x128 .f32) : Vec F S64x1024 .f32 :=
  VecWindow.put s ![0, i % 8 * 128] S64x128.size b

section
variable (c : Dev nD) (t : Fin cfg2.N) (arg2 : Memref sig .tc .vmem S64x23040 .f32) (harg2 : arg2.IsWhole) (arg3 : Memref sig .tc .vmem S128x23040 .f32) (harg3 : arg3.IsWhole) (arg4 : Memref sig .tc .vmem S64x23040 .f32) (harg4 : arg4.IsWhole) (arg5 : Memref sig .tc .vmem S64x1024 .f32) (harg5 : arg5.IsWhole) (arg6 : Memref sig .tc .vmem S64x1024 .bf16) (harg6 : arg6.IsWhole)

set_option maxHeartbeats 1000000 in
/-- The body during the first sweep, before its last point. -/
theorem run_A (h1 : cond1 (grid2.coords t)) (h2 : ¬cond2 (grid2.coords t)) (h3 : ¬cond3 (grid2.coords t))
    (x0 : Vec F S64x23040 .f32) (x1 : Vec F S128x23040 .f32) (xs : Vec F S64x1024 .f32) (E : Set ℕ) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1
            ∗ owns (c : Thread nD τ) arg5 fullShare (put xs t.val (k2_pay2 x1 x0))) -∗ K ⟨⟩))
      ⊢ wp frame (wpE (defs₀ (F := F)) Variants.none c none) E (cc2__attn_body (grid2.coords t) arg2 harg2 arg3 harg3 arg4 harg4 arg5 harg5 arg6 harg6) K := by
  simp only [cc2__attn_body_eq_skeleton]; unfold cc2__attn_body_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  iexists _; isplitr; swap; · iexact HS
  ipureintro
  rw [View.readAt_full, View.readAt_full, hf0, hf1, View.read_writes_cons_put _ _ _ _ _ (hoff1 t), View.writes_nil, hfs]

set_option maxHeartbeats 1000000 in
/-- The body at the last point of the first sweep: the weights are formed and the result is cleared. -/
theorem run_B (h1 : cond1 (grid2.coords t)) (h2 : cond2 (grid2.coords t)) (h3 : ¬cond3 (grid2.coords t))
    (x0 : Vec F S64x23040 .f32) (x1 : Vec F S128x23040 .f32) (x2 : Vec F S64x23040 .f32) (xs : Vec F S64x1024 .f32)
    (xp : Vec F S64x1024 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xs ∗ owns (c : Thread nD τ) arg6 fullShare xp
        ∗ (iprop(owns (c : Thread nD τ) arg2 fullShare x0 ∗ owns (c : Thread nD τ) arg3 fullShare x1 ∗ owns (c : Thread nD τ) arg4 fullShare k2_pay4
            ∗ owns (c : Thread nD τ) arg5 fullShare (put xs t.val (k2_pay2 x1 x0))
            ∗ owns (c : Thread nD τ) arg6 fullShare (k2_pay3 (put xs t.val (k2_pay2 x1 x0)))) -∗ K ⟨⟩))
      ⊢ wp frame (wpE (defs₀ (F := F)) Variants.none c none) E (cc2__attn_body (grid2.coords t) arg2 harg2 arg3 harg3 arg4 harg4 arg5 harg5 arg6 harg6) K := by
  simp only [cc2__attn_body_eq_skeleton]; unfold cc2__attn_body_skel
  unfold owns
  iintro ⟨⟨%f0, %hf0, H0⟩, ⟨%f1, %hf1, H1⟩, ⟨%f2, %hf2, H2⟩, ⟨%fs, %hfs, HS⟩, ⟨%fp, %hfp, HP⟩, Hk⟩
  obtain rfl := harg2.eq_unread hf0; obtain rfl := harg3.eq_unread hf1; obtain rfl := harg5.eq_unread hfs
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro; rw [View.read_writes_full]
  isplitl [HS]
  · iexists _; isplitr; swap; · iexact HS
    ipureintro
    unfold run_B.sl.HS_1
    rw [View.readAt_full, View.readAt_full, hf0, hf1, View.read_writes_cons_put _ _ _ _ _ (hoff1 t), View.writes_nil, hfs]
  iexists _; isplitr; swap; · iexact HP
  ipureintro
  unfold run_B.sl.HS_1
  rw [View.read_writes_full, View.readAt_full, View.readAt_full, View.readAt_full, hf0, hf1, View.read_writes_cons_put _ _ _ _ _ (hoff1 t), View.writes_nil, hfs]

/-- The block of weights a point of the second sweep loads. -/
theorem window_cols (p : Vec F S64x1024 .bf16) (inb) :
    VecWindow.window p ![0, t.val % 8 * 128] S64x128.size inb = cols p t.val := by
  funext j
  unfold VecWindow.window cols
  refine congrArg p (funext fun a => Fin.ext ?_)
  match a with
  | ⟨0, _⟩ => show 0 + 1 * (j 0).val = (j 0).val; omega
  | ⟨1, _⟩ => show t.val % 8 * 128 + 1 * (j 1).val = t.val % 8 * 128 + (j 1).val; omega

set_option maxHeartbeats 1000000 in
/-- The body during the second sweep. -/
theorem run_C (h1 : ¬cond1 (grid2.coords t)) (h2 : ¬cond2 (grid2.coords t)) (h3 : cond3 (grid2.coords t))
    (x0 : Vec F S64x23040 .f32) (x1 : Vec F S128x23040 .f32) (x2 : Vec F S64x23040 .f32) (xp : Vec F S64x1024 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg6 fullShare xp
        ∗ (iprop(owns (c : Thread nD τ) arg2 fullShare x0 ∗ owns (c : Thread nD τ) arg3 fullShare x1
            ∗ owns (c : Thread nD τ) arg4 fullShare (k2_pay5 x1 (cols xp t.val) x2) ∗ owns (c : Thread nD τ) arg6 fullShare xp) -∗ K ⟨⟩))
      ⊢ wp frame (wpE (defs₀ (F := F)) Variants.none c none) E (cc2__attn_body (grid2.coords t) arg2 harg2 arg3 harg3 arg4 harg4 arg5 harg5 arg6 harg6) K := by
  simp only [cc2__attn_body_eq_skeleton]; unfold cc2__attn_body_skel
  unfold owns
  iintro ⟨⟨%f0, %hf0, H0⟩, ⟨%f1, %hf1, H1⟩, ⟨%f2, %hf2, H2⟩, ⟨%fp, %hfp, HP⟩, Hk⟩
  obtain rfl := harg2.eq_unread hf0; obtain rfl := harg3.eq_unread hf1; obtain rfl := harg4.eq_unread hf2; obtain rfl := harg6.eq_unread hfp
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [View.read_writes_full, View.readAt_full, View.readAt_full, hf1, hf2, View.readAt_unit _ _ _ (hoff2 t) (fun a => by have := k2_off2_inb (grid2.coords t) h3 a; rwa [hoff2 t] at this), hfp, window_cols]
  iexists _; isplitr; · ipureintro; exact harg6.read_unread _
  iexact HP

end

variable (V : (c : Dev nD) → (b : Ref sig .tc) → Buf (Elt F) ((c : Thread nD τ).loc b))

/-- The queries and the keys as the call finds them. -/
abbrev qv (c : Dev nD) : Vec F S64x23040 .f32 := V c main_v14
abbrev kv (c : Dev nD) : Vec F S1024x23040 .f32 := V c main_v15

theorem hindex2 : ∀ t : Fin cfg2.N, win2_0.index t = ![0, 0] ∧ win2_1.index t = ![t.val % 8, 0] :=
  (by decide +kernel : ∀ t : Fin grid2.N, win2_0.index t = ![0, 0] ∧ win2_1.index t = ![t.val % 8, 0])

/-- The block of window `w` of the attention call. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem hindex2o : win2_2.index t2_15 = ![0, 0] := by decide +kernel

theorem iblk_q (c : Dev nD) (t : Fin cfg2.N) : iblk V c 0 t = qv V c := by
  funext j
  blk_ext [iblk, hindex2 t]

theorem iblk_k (c : Dev nD) (t : Fin cfg2.N) : iblk V c 1 t = chunk (kv V c) t.val := by
  funext j
  unfold chunk
  blk_ext [iblk, hindex2 t]

/-- What the scratch buffers hold before point `n`: the columns of scores stored so far, and from point 8 on the weights. -/
def Held (q : Vec F S64x23040 .f32) (k : Vec F S1024x23040 .f32) (n : ℕ) (s : Vec F S64x1024 .f32) (p : Vec F S64x1024 .bf16) : Prop :=
  (∀ j, (j 1 : ℕ) < 128 * n → s j = scores q k j) ∧ (8 ≤ n → p = probs q k)

theorem put_scores (q : Vec F S64x23040 .f32) (k : Vec F S1024x23040 .f32) (n : ℕ) (hn : n < 8) (s : Vec F S64x1024 .f32)
    (h : ∀ j, (j 1 : ℕ) < 128 * n → s j = scores q k j) :
    ∀ j, (j 1 : ℕ) < 128 * (n + 1) → put s n (k2_pay2 (chunk k n) q) j = scores q k j := by
  intro j hj
  have h0 : (j 0).val < 64 := (j 0).isLt
  by_cases hin : 128 * n ≤ (j 1 : ℕ)
  · have e : (j 1 : ℕ) / 128 = n := by omega
    have hall : ∀ a, (![0, n % 8 * 128] : Fin 2 → ℕ) a ≤ (j a).val ∧ (j a).val < (![0, n % 8 * 128] : Fin 2 → ℕ) a + S64x128.size a := by
      intro a
      match a with
      | ⟨0, _⟩ => exact ⟨Nat.zero_le _, by show (j 0).val < 0 + 64; omega⟩
      | ⟨1, _⟩ => exact ⟨by show n % 8 * 128 ≤ (j 1).val; omega, by show (j 1).val < n % 8 * 128 + 128; omega⟩
    unfold put VecWindow.put
    rw [dif_pos hall]
    unfold scores
    rw [e]
    refine congrArg (k2_pay2 (chunk k n) q) (funext fun a => Fin.ext ?_)
    match a with
    | ⟨0, _⟩ => rfl
    | ⟨1, _⟩ => show (j 1).val - n % 8 * 128 = (j 1).val % 128; omega
  · have hall : ¬∀ a, (![0, n % 8 * 128] : Fin 2 → ℕ) a ≤ (j a).val ∧ (j a).val < (![0, n % 8 * 128] : Fin 2 → ℕ) a + S64x128.size a := by
      intro hall
      have := (hall 1).1
      change n % 8 * 128 ≤ (j 1).val at this
      omega
    unfold put VecWindow.put
    rw [dif_neg hall]
    exact h j (by omega)

/-- The buffers of the other two calls, at anything. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg8_0), ((c : Thread nD τ).loc cc1_stg8_0) ↦{fullShare} f)
    ∗ (∃ f : Buf (Elt F) ((c : Thread nD τ).loc cc1_stg9_0), ((c : Thread nD τ).loc cc1_stg9_0) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f))

/-- The proof data of the call: the result's buffer follows the second sweep's accumulation, the invariant the scratch. -/
def dat2 (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => acc (qv V c) (kv V c) (t.val - 7)
  Φ t := iprop((∃ s p, ⌜Held (qv V c) (kv V c) t.val s p⌝ ∗ owns (c : Thread nD τ) (Memref.whole cc2_scratch0) fullShare s
      ∗ owns (c : Thread nD τ) (Memref.whole cc2_scratch1) fullShare p) ∗ (∃ r, prngReg c r) ∗ others c)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk V c 0 t := by dsimp only [dat2]
theorem after2_1 (c : Dev nD) (t : Fin cfg2.N) : (dat2 V c).after 1 t = iblk V c 1 t := by dsimp only [dat2]
theorem after2_2 (c : Dev nD) (t : Fin cfg2.N) : (dat2 V c).after 2 t = acc (qv V c) (kv V c) (t.val - 7) := by dsimp only [dat2]

theorem before2_0 (c : Dev nD) (t : Fin cfg2.N) (d) : (dat2 V c).before 0 t d = qv V c :=
  ((dat2 V c).before_in_eq_fetched 0 rfl (fun _ => rfl) (fun _ _ _ => rfl) (fun _ => rfl) t d).trans (iblk_q V c t)
theorem before2_1 (c : Dev nD) (t : Fin cfg2.N) (d) : (dat2 V c).before 1 t d = chunk (kv V c) t.val :=
  ((dat2 V c).before_in_eq_fetched 1 rfl (fun _ => rfl) (fun _ _ _ => rfl) (fun _ => rfl) t d).trans (iblk_k V c t)
theorem before2_2 (c : Dev nD) (t : Fin cfg2.N) (h : 8 ≤ t.val) (d) : (dat2 V c).before 2 t d = acc (qv V c) (kv V c) (t.val - 8) := by
  rw [(dat2 V c).before_out_traj 2 rfl (fun _ _ => rfl) (fun t' ht' hi hf => by
      rw [hidle2, decide_eq_true_eq] at hi
      rw [hfresh2, decide_eq_false_iff_not] at hf
      omega) t.val t rfl d, hfresh2, decide_eq_false (by omega), if_neg Bool.false_ne_true, after2_2]
  congr 1

theorem Phi_in (c : Dev nD) : (Pipeline.ΦA spec2 c : sProp 𝕄) ⊢ (dat2 V c).Φ 0 := by
  unfold Pipeline.ΦA; rw [scopedRest2_eq]
  dsimp only [dat2]
  unfold others
  iintro ⟨⟨HR0, HR1, HR2, HR3, HR4, HR5, HR6, HR7, HR8, HR9, HR10, HR11, HR12, HR13, HR14, HR15, ⟨%s, HS⟩, ⟨%p, HP⟩⟩, Hr⟩
  isplitl [HS HP]
  · iexists s, p
    isplitr
    · ipureintro; exact ⟨fun j hj => absurd hj (by simp), fun h => absurd h (by decide)⟩
    rw [owns_whole, owns_whole]
    isplitl [HS]; · iexact HS
    iexact HP
  isplitl [Hr]; · iexact Hr
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  isplitl [HR10]; · iexact HR10
  isplitl [HR11]; · iexact HR11
  isplitl [HR12]; · iexact HR12
  isplitl [HR13]; · iexact HR13
  isplitl [HR14]; · iexact HR14
  iexact HR15

theorem Phi_out (c : Dev nD) : (dat2 V c).Φ (Fin.last cfg2.N) ⊢ (Pipeline.ΦA spec2 c : sProp 𝕄) := by
  unfold Pipeline.ΦA; rw [scopedRest2_eq]
  dsimp only [dat2]
  unfold others
  simp only [owns_whole]
  iintro ⟨⟨%s, %p, -, HS, HP⟩, Hr, HR0, HR1, HR2, HR3, HR4, HR5, HR6, HR7, HR8, HR9, HR10, HR11, HR12, HR13, HR14, HR15⟩
  isplitl [HR0 HR1 HR2 HR3 HR4 HR5 HR6 HR7 HR8 HR9 HR10 HR11 HR12 HR13 HR14 HR15 HS HP]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HS]
    · iexists s; iexact HS
    iexists p; iexact HP
  iexact Hr

/-! ## The body at each point -/

abbrev ms2_0 (t : Fin cfg2.N) : Memref sig .tc .vmem S64x23040 .f32 := win2_0.stage (cfg2.slots t 0)
abbrev ms2_1 (t : Fin cfg2.N) : Memref sig .tc .vmem S128x23040 .f32 := win2_1.stage (cfg2.slots t 1)
abbrev ms2_2 (t : Fin cfg2.N) : Memref sig .tc .vmem S64x23040 .f32 := win2_2.stage (cfg2.slots t 2)

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

theorem leaves_q (c : Dev nD) (t : Fin cfg2.N) : (dat2 V c).leavesExact 0 t = owns (c : Thread nD τ) (ms2_0 t) fullShare (qv V c) := by
  rw [← iblk_q V c t, ← after2_0 V c t]
theorem leaves_k (c : Dev nD) (t : Fin cfg2.N) : (dat2 V c).leavesExact 1 t = owns (c : Thread nD τ) (ms2_1 t) fullShare (chunk (kv V c) t.val) := by
  rw [← iblk_k V c t, ← after2_1 V c t]
theorem leaves_o (c : Dev nD) (t : Fin cfg2.N) (h : 7 ≤ t.val) :
    (dat2 V c).leavesExact 2 t = owns (c : Thread nD τ) (ms2_2 t) fullShare (acc (qv V c) (kv V c) (t.val - 7)) := by
  rw [← after2_2 V c t]; unfold Dat.leavesExact; rw [hidle2, decide_eq_false (by omega)]
theorem leaves_idle (c : Dev nD) (t : Fin cfg2.N) (h : t.val < 7) :
    (dat2 V c).leavesExact 2 t = iprop(∃ d, owns (c : Thread nD τ) (ms2_2 t) fullShare ((dat2 V c).before 2 t d)) := by
  unfold Dat.leavesExact; rw [hidle2, decide_eq_true h]
  have : (cfg2.win 2).flush t = false := by
    rw [← Bool.not_eq_true, flush2_2]; omega
  rw [this]

set_option maxHeartbeats 1600000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl, leaves_q, leaves_k]
  have hN : t.val < 16 := lt_of_lt_of_eq t.isLt (show cfg2.N = 16 from N_2)
  rw [show (dat2 V c).Φ t.castSucc = iprop((∃ s p, ⌜Held (qv V c) (kv V c) t.val s p⌝ ∗ owns (c : Thread nD τ) (Memref.whole cc2_scratch0) fullShare s
      ∗ owns (c : Thread nD τ) (Memref.whole cc2_scratch1) fullShare p) ∗ (∃ r, prngReg c r) ∗ others c) from rfl,
    show (dat2 V c).Φ t.succ = iprop((∃ s p, ⌜Held (qv V c) (kv V c) (t.val + 1) s p⌝ ∗ owns (c : Thread nD τ) (Memref.whole cc2_scratch0) fullShare s
      ∗ owns (c : Thread nD τ) (Memref.whole cc2_scratch1) fullShare p) ∗ (∃ r, prngReg c r) ∗ others c) from rfl]
  rcases Nat.lt_trichotomy t.val 7 with h | h | h
  · rw [leaves_idle V c t h]
    iintro ⟨⟨⟨%s, %p, %hs, HS, HP⟩, Hg⟩, Ho, ⟨%d0, H0⟩, ⟨%d1, H1⟩, H2⟩
    iapply (run_A c t _ _ _ _ _ _ _ _ _ _ ((hcond1 t).mpr (by omega)) (fun hc => by have := (hcond2 t).mp hc; omega)
      (fun hc => by have := (hcond3 t).mp hc; omega) (qv V c) (chunk (kv V c) t.val) s Set.univ _)
    isplitl [H0]; · iexact H0
    isplitl [H1]; · iexact H1
    isplitl [HS]; · iexact HS
    iintro ⟨H0, H1, HS⟩
    isplitl [HS HP Hg]
    · isplitr [Hg]
      · iexists _, p
        isplitr; swap
        · isplitl [HS]; · iexact HS
          iexact HP
        ipureintro
        exact ⟨put_scores _ _ _ (by omega) _ hs.1, fun h' => absurd h' (by omega)⟩
      iexact Hg
    isplitl [Ho]; · iexact Ho
    isplitl [H0]; · iexact H0
    isplitl [H1]; · iexact H1
    iexact H2
  · rw [leaves_o V c t (by omega)]
    iintro ⟨⟨⟨%s, %p, %hs, HS, HP⟩, Hg⟩, Ho, ⟨%d0, H0⟩, ⟨%d1, H1⟩, ⟨%d2, H2⟩⟩
    iapply (run_B c t _ _ _ _ _ _ _ _ _ _ ((hcond1 t).mpr (by omega)) ((hcond2 t).mpr h)
      (fun hc => by have := (hcond3 t).mp hc; omega) (qv V c) (chunk (kv V c) t.val) _ s p Set.univ _)
    isplitl [H0]; · iexact H0
    isplitl [H1]; · iexact H1
    isplitl [H2]; · iexact H2
    isplitl [HS]; · iexact HS
    isplitl [HP]; · iexact HP
    iintro ⟨H0, H1, H2, HS, HP⟩
    have hput := put_scores _ _ _ (by omega) _ hs.1
    isplitl [HS HP Hg]
    · isplitr [Hg]
      · iexists _, _
        isplitr; swap
        · isplitl [HS]; · iexact HS
          iexact HP
        ipureintro
        refine ⟨hput, fun _ => congrArg k2_pay3 (funext fun j => hput j ?_)⟩
        have : (j 1).val < 1024 := (j 1).isLt
        omega
      iexact Hg
    isplitl [Ho]; · iexact Ho
    isplitl [H0]; · iexact H0
    isplitl [H1]; · iexact H1
    rw [show t.val - 7 = 0 by omega]
    iexact H2
  · rw [leaves_o V c t (by omega)]
    simp only [before2_2 V c t h]
    iintro ⟨⟨⟨%s, %p, %hs, HS, HP⟩, Hg⟩, Ho, ⟨%d0, H0⟩, ⟨%d1, H1⟩, ⟨%d2, H2⟩⟩
    obtain rfl : p = probs (qv V c) (kv V c) := hs.2 h
    iapply (run_C c t _ _ _ _ _ _ _ _ _ _ (fun hc => by have := (hcond1 t).mp hc; omega) (fun hc => by have := (hcond2 t).mp hc; omega)
      ((hcond3 t).mpr h) (qv V c) (chunk (kv V c) t.val) (acc (qv V c) (kv V c) (t.val - 8)) (probs (qv V c) (kv V c)) Set.univ _)
    isplitl [H0]; · iexact H0
    isplitl [H1]; · iexact H1
    isplitl [H2]; · iexact H2
    isplitl [HP]; · iexact HP
    iintro ⟨H0, H1, H2, HP⟩
    isplitl [HS HP Hg]
    · isplitr [Hg]
      · iexists s, _
        isplitr; swap
        · isplitl [HS]; · iexact HS
          iexact HP
        ipureintro
        refine ⟨fun j _ => hs.1 j ?_, fun _ => rfl⟩
        have : (j 1).val < 1024 := (j 1).isLt
        omega
      iexact Hg
    isplitl [Ho]; · iexact Ho
    isplitl [H0]; · iexact H0
    isplitl [H1]; · iexact H1
    rw [show t.val - 7 = t.val - 8 + 1 by omega, acc, chunk_mod _ _ h, cols_mod _ _ h]
    iexact H2

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- What the attention call leaves in its result's array. -/
theorem final2 (c : Dev nD) : (dat2 V c).arrAt 2 cfg2.N = acc (qv V c) (kv V c) 8 := by
  refine (dat2 V c).arrAt_eq_of_after_last 2 t2_15 (by decide +kernel) _ fun j => ?_
  blk_simp [hindex2o]
  rw [after2_2]
  rfl

end Cert.EncodeIdeal.Body

end
-- ==== Proof.Run.lean ====
module

public import proofs.«01_k».proof.Proof.Gen.EncodeIdeal.Launch
public import proofs.«01_k».proof.Proof.Gen.EncodeIdeal.Skeleton
public import proofs.«01_k».proof.Proof.Gen.EncodeIdeal.Points
public import proofs.«01_k».proof.Proof.Gen.EncodeIdeal.Regions
public import proofs.«01_k».proof.Proof.Linear
public import proofs.«01_k».proof.Proof.Lstm
public import proofs.«01_k».proof.Proof.Attn
public import Idealize.ShloMosaic.Lib.Pipeline.FrameBody
public import Idealize.ShloMosaic.Lib.Pipeline.ValueKit
public import Idealize.ShloMosaic.Lib.Pointwise
public import Idealize.ShloMosaic.Lib.VecWindow
public import Idealize.ShloMosaic.Lib.Pipeline.RegionsLoop
public import Idealize.ShloMosaic.Lib.Pipeline.FrameSuffix
public import Idealize.ShloMosaic.Lib.Tactic

@[expose] public section

set_option maxRecDepth 16384

noncomputable section

namespace Cert.EncodeIdeal.Body

open Cert.EncodeIdeal Cert.EncodeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9, main_arg10, main_arg11]

/-! The buffers at each boundary of the program: a host stretch, then a call, three times over. -/

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

/-! ### Stretch 0 and call 0 -/

abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem hostOps0_args : ∀ a ∈ argRefs, a ∉ hostOps0_W := ListAll.forall_mem_of_all_decide (by decide +kernel)
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev E0 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (E0 m ρ) c).arrAt w cfg0.N
theorem W2_arr (c : Dev nD) (w : Fin cfg0.W) :
    W2 m ρ c (Proc.devRef .tc (Pipeline.arrRef spec0 w)) = (dat0 (E0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (E0 m ρ) c).arrAt_in w (h w rfl) _).trans (A_eq0 (E0 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev X0 : (c : Dev nD) → (b : Ref sig .tc) → Buf (Elt F) ((c : Thread nD τ).loc b) := fun c b => W2 m ρ c b
theorem hF0 (c : Dev nD) (w : Fin cfg0.W) : (dat0 (E0 m ρ) c).arrAt w cfg0.N = X0 m ρ c (Pipeline.arrRef spec0 w) :=
  (W2_arr m ρ c w).symm
theorem hrest0 (c : Dev nD) : ∀ b, b ∉ Finset.univ.image (Pipeline.arrRef spec0) → X0 m ρ c b = E0 m ρ c b :=
  fun b hb => W2_of_ne m ρ c b fun w e => hb (Finset.mem_image.mpr ⟨w, Finset.mem_univ _, e⟩)

/-! ### Stretch 1 and call 1 -/

abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem hostOps1_args : ∀ a ∈ argRefs, a ∉ hostOps1_W := ListAll.forall_mem_of_all_decide (by decide +kernel)
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev E1 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (E1 m ρ) c).arrAt w cfg1.N
theorem W4_arr (c : Dev nD) (w : Fin cfg1.W) :
    W4 m ρ c (Proc.devRef .tc (Pipeline.arrRef spec1 w)) = (dat1 (E1 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (E1 m ρ) c).arrAt_in w (h w rfl) _).trans (A_eq1 (E1 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev X1 : (c : Dev nD) → (b : Ref sig .tc) → Buf (Elt F) ((c : Thread nD τ).loc b) := fun c b => W4 m ρ c b
theorem hF1 (c : Dev nD) (w : Fin cfg1.W) : (dat1 (E1 m ρ) c).arrAt w cfg1.N = X1 m ρ c (Pipeline.arrRef spec1 w) :=
  (W4_arr m ρ c w).symm
theorem hrest1 (c : Dev nD) : ∀ b, b ∉ Finset.univ.image (Pipeline.arrRef spec1) → X1 m ρ c b = E1 m ρ c b :=
  fun b hb => W4_of_ne m ρ c b fun w e => hb (Finset.mem_image.mpr ⟨w, Finset.mem_univ _, e⟩)

/-! ### Stretch 2 and call 2 -/

abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem hostOps2_args : ∀ a ∈ argRefs, a ∉ hostOps2_W := ListAll.forall_mem_of_all_decide (by decide +kernel)
theorem W5_args (c : Dev nD) : ∀ a ∈ argRefs, W5 m ρ c (Proc.devRef .tc a) = m ((c : Thread nD τ).loc a) :=
  fun a ha => (W5_of m ρ c a (hostOps2_args a ha)).trans (W4_args m ρ c a ha)
abbrev E2 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (E2 m ρ) c).arrAt w cfg2.N
theorem W6_arr (c : Dev nD) (w : Fin cfg2.W) :
    W6 m ρ c (Proc.devRef .tc (Pipeline.arrRef spec2 w)) = (dat2 (E2 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (E2 m ρ) c).arrAt_in w (h w rfl) _).trans (A_eq2 (E2 m ρ) c w))
  · exact W6_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
abbrev X2 : (c : Dev nD) → (b : Ref sig .tc) → Buf (Elt F) ((c : Thread nD τ).loc b) := fun c b => W6 m ρ c b
theorem hF2 (c : Dev nD) (w : Fin cfg2.W) : (dat2 (E2 m ρ) c).arrAt w cfg2.N = X2 m ρ c (Pipeline.arrRef spec2 w) :=
  (W6_arr m ρ c w).symm
theorem hrest2 (c : Dev nD) : ∀ b, b ∉ Finset.univ.image (Pipeline.arrRef spec2) → X2 m ρ c b = E2 m ρ c b :=
  fun b hb => W6_of_ne m ρ c b fun w e => hb (Finset.mem_image.mpr ⟨w, Finset.mem_univ _, e⟩)

/-! ## The calls' proof data, and what rides beside the buffers -/

def pdats : (p : Fin 3) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
  | ⟨2, _⟩ => fun c => dat2 (E2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
/-- A host stretch as a segment of the run. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state at the return, beside the core's debts. -/
abbrev Tₙ (c : Dev nD) : sProp 𝕄 := iprop(StableHlo.held (c : Thread nD τ) (Pipeline.ucRefs τ sig) (W6 m ρ c) ∗ ∃ r, prngReg c r)

set_option backward.isDefEq.respectTransparency.types false in
/-- Call 0 as a segment of the run. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) (A_eq0 (E0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (X0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of the run. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) (A_eq1 (E1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (X1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment of the run. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E2 m ρ c) (A_eq2 (E2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi_in (E2 m ρ) c)
    unfold Pipeline.ΦA
    iintro ⟨Hp, -, Hr⟩
    isplitl [Hr]; · iexact Hr
    iexact Hp
  hout c := by
    refine BIBase.Entails.trans (Phi_out (E2 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E2 m ρ c) (X2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- The run: every buffer of the program ends at the last boundary's contents, every semaphore at zero. -/
theorem run_all : θ_run defs (onTc (τ := τ) (main (F := F))) ⟨m, fun _ => 0, ρ⟩ (fun r =>
    (∀ c : Dev nD, ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (regions_no_unscoped g.2))⟩)

/-- Every execution ends, leaves the arguments as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c =>
    have hr (a : Ref sig .tc) (ha : a ∈ argRefs) (hs : ¬ (Proc.devRef .tc a : DevRef τ sig).isScoped) :
        r.2.mem ((c.tc : Thread nD τ).loc a) = m ((c.tc : Thread nD τ).loc a) :=
      (h.1 c _ (mem_uc a hs)).trans (W6_args m ρ c a ha)
    ⟨hr main_arg0 (by decide) (by decide), hr main_arg1 (by decide) (by decide), hr main_arg2 (by decide) (by decide), hr main_arg3 (by decide) (by decide), hr main_arg4 (by decide) (by decide), hr main_arg5 (by decide) (by decide), hr main_arg6 (by decide) (by decide), hr main_arg7 (by decide) (by decide), hr main_arg8 (by decide) (by decide), hr main_arg9 (by decide) (by decide), hr main_arg10 (by decide) (by decide), hr main_arg11 (by decide) (by decide)⟩, h.2⟩) (run_all m ρ)

/-- An argument's buffer when the program ends. -/
theorem arg_end (r : (ℓ : Loc nD τ sig) → Buf (Elt F) ℓ) (c : Dev nD) (h : ∀ b ∈ Pipeline.ucRefs τ sig, r (((c : Thread nD τ)).1, b) = W6 m ρ c b)
    (a : Ref sig .tc) (ha : a ∈ argRefs) (hs : ¬ (Proc.devRef .tc a : DevRef τ sig).isScoped) :
    r ((c.tc : Thread nD τ).loc a) = m ((c.tc : Thread nD τ).loc a) :=
  (h _ (mem_uc a hs)).trans (W6_args m ρ c a ha)

/-- Every execution ends with the attention call's result and the arguments as launched. -/
theorem result : θ_run defs (onTc (τ := τ) (main (F := F))) ⟨m, fun _ => 0, ρ⟩ (fun r => ∀ c : Dev nD,
      r.2.mem ((c.tc : Thread nD τ).loc main_v16) = acc (E2 m ρ c main_v14) (E2 m ρ c main_v15) 8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    have hr := arg_end m ρ r.2.mem c (h.1 c)
    ⟨(h.1 c _ (mem_uc main_v16 (by decide))).trans ((W6_arr m ρ c 2).trans (final2 (E2 m ρ) c)),
      hr main_arg0 (by decide) (by decide), hr main_arg1 (by decide) (by decide), hr main_arg2 (by decide) (by decide), hr main_arg3 (by decide) (by decide), hr main_arg4 (by decide) (by decide), hr main_arg5 (by decide) (by decide), hr main_arg6 (by decide) (by decide), hr main_arg7 (by decide) (by decide), hr main_arg8 (by decide) (by decide), hr main_arg9 (by decide) (by decide), hr main_arg10 (by decide) (by decide), hr main_arg11 (by decide) (by decide)⟩) (run_all m ρ)

end Cert.EncodeIdeal.Body

end
-- ==== Proof.Formula.lean ====
/- The attention formula on the extended reals, and the few facts about it that both the kernel's and the
   reference's reading need. -/
module

public import Idealize.ShloMosaic.PureOps.Ideal
public import Idealize.ShloMosaic.Lib.Pointwise

@[expose] public section

noncomputable section

namespace Formula

open Idealize.ShloMosaic

/-- The constants the programs spell. -/
theorem ofBits_512 : Ideal.ofBits .f32 0x44000000#32 = ((512 : ℝ) : EReal) := by
  simp [Ideal.ofBits, Ideal.ieee, -EReal.coe_mul]; norm_num
theorem ofBits_neg_inf : Ideal.ofBits .f32 0xFF800000#32 = ⊥ := by
  simp [Ideal.ofBits, Ideal.ieee]

/-- The scaled score of query `a` against key `n`. -/
def score {B N D : ℕ} (q : Fin B → Fin D → EReal) (k : Fin N → Fin D → EReal) (a : Fin B) (n : Fin N) : EReal :=
  (∑ d, q a d * k n d) * (((Real.sqrt 512)⁻¹ : ℝ) : EReal)

/-- The softmax of one row of scores. -/
def soft {N : ℕ} (s : Fin N → EReal) (n : Fin N) : EReal :=
  Ideal.div (Ideal.exp (s n - Finset.fold max ⊥ s Finset.univ)) (∑ x, Ideal.exp (s x - Finset.fold max ⊥ s Finset.univ))

/-- The attention output. -/
def attend {B N D : ℕ} (q : Fin B → Fin D → EReal) (k : Fin N → Fin D → EReal) (a : Fin B) (d : Fin D) : EReal :=
  ∑ n, soft (score q k a) n * k n d

/-- Dividing by the root of 512 is multiplying by its reciprocal. -/
theorem div_sqrt (x : EReal) : Ideal.div x (Ideal.sqrt ((512 : ℝ) : EReal)) = x * (((Real.sqrt 512)⁻¹ : ℝ) : EReal) := by
  rw [Ideal.sqrt_coe, if_neg (by norm_num), Ideal.div_coe (Real.sqrt_pos.mpr (by norm_num)).ne', one_div]

/-- An accumulation over the blocks of a sum, started at zero, is the whole sum. -/
theorem tiled {J T N : ℕ} (hN : J * T = N) (f : Fin N → EReal) (g : ℕ → EReal) (h0 : g 0 = 0)
    (hs : ∀ i (hi : i < J), g (i + 1) = g i + ∑ t : Fin T, f ⟨i * T + t.val, by
      subst hN
      calc i * T + t.val < i * T + T := by have := t.isLt; omega
        _ = (i + 1) * T := by rw [Nat.add_mul, Nat.one_mul]
        _ ≤ J * T := Nat.mul_le_mul_right _ (by omega)⟩) : g J = ∑ n, f n := by
  rw [Fin.sum_univ_tiles J T hN f]
  have key : ∀ n (hn : n ≤ J), g n = ∑ j : Fin n, ∑ t : Fin T, f ⟨j.val * T + t.val, by
      subst hN
      have := j.isLt
      calc j.val * T + t.val < j.val * T + T := by have := t.isLt; omega
        _ = (j.val + 1) * T := by rw [Nat.add_mul, Nat.one_mul]
        _ ≤ J * T := Nat.mul_le_mul_right _ (by omega)⟩ := by
    intro n
    induction n with
    | zero => intro _; simpa using h0
    | succ n ih => intro hn; rw [hs n (by omega), ih (by omega), Fin.sum_univ_castSucc]; rfl
  exact key J le_rfl

end Formula

end
-- ==== Proof.Recur.lean ====
/- The recurrent layer on the extended reals, one batch row at a time, and the encoding the two directions of it
   make of a sequence. -/
module

public import proofs.«01_k».proof.Proof.Formula

@[expose] public section

noncomputable section

namespace Formula

open Idealize.ShloMosaic

/-- The parameters of one direction. -/
structure Weights where
  wih : Fin 1024 → Fin 30 → EReal
  whh : Fin 1024 → Fin 256 → EReal
  bih : Fin 1024 → EReal
  bhh : Fin 1024 → EReal

/-- The gates' arguments at one time step, of the input and the hidden state. -/
def gate (w : Weights) (x : Fin 30 → EReal) (h : Fin 256 → EReal) (g : Fin 1024) : EReal :=
  (∑ f, x f * w.wih g f) + (∑ u, h u * w.whh g u) + w.bih g + w.bhh g

/-- The new cell state of the gates' arguments and the old cell state. -/
def cellC (z : Fin 1024 → EReal) (c : Fin 256 → EReal) (u : Fin 256) : EReal :=
  Ideal.logistic (z ⟨256 + u.val, by omega⟩) * c u + Ideal.logistic (z ⟨u.val, by omega⟩) * Ideal.tanh (z ⟨512 + u.val, by omega⟩)

/-- The new hidden state. -/
def cellH (z : Fin 1024 → EReal) (c : Fin 256 → EReal) (u : Fin 256) : EReal :=
  Ideal.logistic (z ⟨768 + u.val, by omega⟩) * Ideal.tanh (cellC z c u)

/-- The hidden and the cell state after `n` time steps of the sequence `xs`, from zeros. -/
def lstm (w : Weights) (xs : ℕ → Fin 30 → EReal) : ℕ → (Fin 256 → EReal) × (Fin 256 → EReal)
  | 0 => (fun _ => 0, fun _ => 0)
  | n + 1 => (cellH (gate w (xs n) (lstm w xs n).1) (lstm w xs n).2, cellC (gate w (xs n) (lstm w xs n).1) (lstm w xs n).2)

/-- The sequence read from its end. -/
def back (xs : ℕ → Fin 30 → EReal) : ℕ → Fin 30 → EReal := fun n => xs (44 - n)

/-- The encoding of a sequence at time `t`: the forward state, then the backward state. -/
def encoding (wf wb : Weights) (xs : ℕ → Fin 30 → EReal) (t : ℕ) (d : Fin 512) : EReal :=
  if h : d.val < 256 then (lstm wf xs (t + 1)).1 ⟨d.val, h⟩ else (lstm wb (back xs) (45 - t)).1 ⟨d.val - 256, by omega⟩

/-- The encoding laid out in one row of 45 times 512. -/
def flat (wf wb : Weights) (xs : ℕ → Fin 30 → EReal) (i : Fin 23040) : EReal :=
  encoding wf wb xs (i.val / 512) ⟨i.val % 512, Nat.mod_lt _ (by decide)⟩

/-- The layer's state depends on the steps it has taken. -/
theorem lstm_congr (w : Weights) {xs ys : ℕ → Fin 30 → EReal} : ∀ n, (∀ i < n, xs i = ys i) → lstm w xs n = lstm w ys n
  | 0, _ => rfl
  | n + 1, h => by rw [lstm, lstm, lstm_congr w n fun i hi => h i (by omega), h n (by omega)]

/-- The linear layer over the samples: sequence `b`, time `t`, feature `f` of sensor `f / 6`. -/
def linear (src : Fin 64 → Fin 5 → Fin 1500 → Fin 6 → EReal) (W : Fin 45 → Fin 1500 → EReal) (bias : Fin 45 → EReal) (b : Fin 64) (t : ℕ) (f : Fin 30) : EReal :=
  (∑ s, src b ⟨f.val / 6, by omega⟩ s ⟨f.val % 6, by omega⟩ * W ⟨t % 45, Nat.mod_lt _ (by decide)⟩ s) + bias ⟨t % 45, Nat.mod_lt _ (by decide)⟩

/-- A sum over times and both halves of the states is the sum over the flat row. -/
theorem sum_halves (f : Fin 45 → Fin 512 → EReal) :
    (∑ u : Fin 256, ∑ t : Fin 45, f t ⟨u.val, by omega⟩) + (∑ u : Fin 256, ∑ t : Fin 45, f t ⟨256 + u.val, by omega⟩)
      = ∑ i : Fin 23040, f ⟨i.val / 512, by omega⟩ ⟨i.val % 512, by omega⟩ := by
  rw [Fin.sum_univ_tiles 45 512 rfl (fun i : Fin 23040 => f ⟨i.val / 512, by omega⟩ ⟨i.val % 512, by omega⟩), Finset.sum_comm,
    Finset.sum_comm (s := (Finset.univ : Finset (Fin 256))), ← Finset.sum_add_distrib]
  refine Finset.sum_congr rfl fun t _ => ?_
  have e : ∀ d : Fin 512, f ⟨(t.val * 512 + d.val) / 512, by omega⟩ ⟨(t.val * 512 + d.val) % 512, by omega⟩ = f t d := fun d => by
    congr 1 <;> apply Fin.ext
    · show (t.val * 512 + d.val) / 512 = t.val; omega
    · show (t.val * 512 + d.val) % 512 = d.val; omega
  refine Eq.trans ?_ (Finset.sum_congr rfl fun d _ => (e d).symm)
  exact (Fin.sum_univ_add (a := 256) (b := 256) (fun d : Fin (256 + 256) => f t d)).symm

end Formula

end
-- ==== Proof.Cell.lean ====
/- The kernel's recurrence is the recurrent layer: its values read entry by entry on the extended reals. -/
module

public import proofs.«01_k».proof.Proof.Lstm
public import proofs.«01_k».proof.Proof.Recur

@[expose] public section

set_option maxRecDepth 16384

noncomputable section

namespace Cert.EncodeIdeal.Body

open Cert.EncodeIdeal Cert.EncodeIdeal.Gen
open Idealize.ShloMosaic Idealize.ShloMosaic.TcCoe Idealize.ShloMosaic.Tactic

/-- One row of the input products, step by step. -/
abbrev inputs (x : FVec Ideal S2880x30 .f32) (b : Fin 64) (t : ℕ) (f : Fin 30) : EReal :=
  x (ix2 (⟨t % 45 * 64 + b.val, by omega⟩ : Fin 2880) f)

/-- One direction's parameters as the kernel holds them. -/
abbrev weights (wih : FVec Ideal S1024x30 .f32) (whh : FVec Ideal S1024x256 .f32) (bih bhh : FVec Ideal S1x1024 .f32) : Formula.Weights where
  wih g f := wih (ix2 g f)
  whh g u := whh (ix2 g u)
  bih g := bih (ix2 (0 : Fin 1) g)
  bhh g := bhh (ix2 (0 : Fin 1) g)

section
variable (wih : FVec Ideal S1024x30 .f32) (whh : FVec Ideal S1024x256 .f32) (bih bhh : FVec Ideal S1x1024 .f32) (x : FVec Ideal S2880x30 .f32)
  (h c : FVec Ideal S64x256 .f32) (r : FVec Ideal S64x1024 .f32)

theorem pay8_at (t : ℕ) (b : Fin 64) (g : Fin 1024) :
    rows (F := Ideal) (k1_pay8 (F := Ideal) x wih) t (ix2 b g) = ∑ f, inputs x b t f * wih (ix2 g f) := by
  pointwise [rows, k1_pay8, k1_pay7]

theorem pay1_at (b : Fin 64) (g : Fin 1024) :
    k1_pay1 (F := Ideal) whh (k1_pay10 bih) (k1_pay11 bhh) h r (ix2 b g)
      = r (ix2 b g) + (∑ u, h (ix2 b u) * whh (ix2 g u)) + bih (ix2 (0 : Fin 1) g) + bhh (ix2 (0 : Fin 1) g) := by
  pointwise [k1_pay1, k1_pay10, k1_pay11]

theorem pay2_at (b : Fin 64) (u : Fin 256) :
    k1_pay2 (F := Ideal) whh (k1_pay10 bih) (k1_pay11 bhh) h c r (ix2 b u)
      = Formula.cellC (fun g => k1_pay1 (F := Ideal) whh (k1_pay10 bih) (k1_pay11 bhh) h r (ix2 b g)) (fun u => c (ix2 b u)) u := by
  unfold Formula.cellC
  pointwise [k1_pay2]

theorem pay3_at (b : Fin 64) (u : Fin 256) :
    k1_pay3 (F := Ideal) whh (k1_pay10 bih) (k1_pay11 bhh) h c r (ix2 b u)
      = Formula.cellH (fun g => k1_pay1 (F := Ideal) whh (k1_pay10 bih) (k1_pay11 bhh) h r (ix2 b g)) (fun u => c (ix2 b u)) u := by
  unfold Formula.cellH
  rw [← pay2_at]
  pointwise [k1_pay3]

/-- The gates' arguments at step `t`. -/
theorem gate_at (t : ℕ) (b : Fin 64) (g : Fin 1024) :
    k1_pay1 (F := Ideal) whh (k1_pay10 bih) (k1_pay11 bhh) h (rows (k1_pay8 (F := Ideal) x wih) t) (ix2 b g)
      = Formula.gate (weights wih whh bih bhh) (inputs x b t) (fun u => h (ix2 b u)) g := by
  rw [pay1_at, pay8_at]; rfl

theorem hidden_at (t : ℕ) (b : Fin 64) (u : Fin 256) :
    k1_pay3 (F := Ideal) whh (k1_pay10 bih) (k1_pay11 bhh) h c (rows (k1_pay8 (F := Ideal) x wih) t) (ix2 b u)
      = Formula.cellH (Formula.gate (weights wih whh bih bhh) (inputs x b t) (fun u => h (ix2 b u))) (fun u => c (ix2 b u)) u := by
  rw [pay3_at]; exact congrArg (Formula.cellH · _ u) (funext fun g => gate_at wih whh bih bhh x h t b g)

theorem cell_at (t : ℕ) (b : Fin 64) (u : Fin 256) :
    k1_pay2 (F := Ideal) whh (k1_pay10 bih) (k1_pay11 bhh) h c (rows (k1_pay8 (F := Ideal) x wih) t) (ix2 b u)
      = Formula.cellC (Formula.gate (weights wih whh bih bhh) (inputs x b t) (fun u => h (ix2 b u))) (fun u => c (ix2 b u)) u := by
  rw [pay2_at]; exact congrArg (Formula.cellC · _ u) (funext fun g => gate_at wih whh bih bhh x h t b g)

end

/-! The backward direction computes the same functions. -/
theorem pay9_eq : k1_pay9 (F := Ideal) = k1_pay8 := rfl
theorem pay5_eq : k1_pay5 (F := Ideal) = k1_pay2 := rfl
theorem pay6_eq : k1_pay6 (F := Ideal) = k1_pay3 := rfl
theorem pay12_eq : k1_pay12 (F := Ideal) = k1_pay10 := rfl
theorem pay13_eq : k1_pay13 (F := Ideal) = k1_pay11 := rfl

section
variable (wihF : FVec Ideal S1024x30 .f32) (whhF : FVec Ideal S1024x256 .f32) (bihF bhhF : FVec Ideal S1x1024 .f32)
  (wihB : FVec Ideal S1024x30 .f32) (whhB : FVec Ideal S1024x256 .f32) (bihB bhhB : FVec Ideal S1x1024 .f32) (x : FVec Ideal S2880x30 .f32)

/-- The carried states after `n` trips. -/
abbrev carried (n : ℕ) : Carry Ideal :=
  carry (F := Ideal) whhF whhB bihF bhhF bihB bhhB (k1_pay8 (F := Ideal) x wihF) (k1_pay9 (F := Ideal) x wihB) (k1_pay14, k1_pay14, k1_pay14, k1_pay14) n

theorem carried_at (b : Fin 64) (n : ℕ) :
    ((fun u => (carried wihF whhF bihF bhhF wihB whhB bihB bhhB x n).1 (ix2 b u)) = (Formula.lstm (weights wihF whhF bihF bhhF) (inputs x b) n).1
      ∧ (fun u => (carried wihF whhF bihF bhhF wihB whhB bihB bhhB x n).2.1 (ix2 b u)) = (Formula.lstm (weights wihF whhF bihF bhhF) (inputs x b) n).2)
    ∧ ((fun u => (carried wihF whhF bihF bhhF wihB whhB bihB bhhB x n).2.2.1 (ix2 b u)) = (Formula.lstm (weights wihB whhB bihB bhhB) (Formula.back (inputs x b)) n).1
      ∧ (fun u => (carried wihF whhF bihF bhhF wihB whhB bihB bhhB x n).2.2.2 (ix2 b u)) = (Formula.lstm (weights wihB whhB bihB bhhB) (Formula.back (inputs x b)) n).2) := by
  induction n with
  | zero =>
    unfold carried carry Formula.lstm
    refine ⟨⟨funext fun u => ?_, funext fun u => ?_⟩, funext fun u => ?_, funext fun u => ?_⟩ <;> pointwise [k1_pay14]
  | succ n ih =>
    obtain ⟨⟨h1, h2⟩, h3, h4⟩ := ih
    unfold carried at *
    unfold carry trip Formula.lstm
    rw [pay9_eq, pay5_eq, pay6_eq, pay12_eq, pay13_eq]
    rw [pay9_eq] at h1 h2 h3 h4
    dsimp only
    refine ⟨⟨funext fun u => ?_, funext fun u => ?_⟩, funext fun u => ?_, funext fun u => ?_⟩
    · rw [hidden_at, h1, h2]
    · rw [cell_at, h1, h2]
    · rw [hidden_at, h3, h4]; rfl
    · rw [cell_at, h3, h4]; rfl

/-- The recurrent call's result, entry by entry. -/
theorem states_at (t : ℕ) (ht : t < 45) (b : Fin 64) (d : Fin 512) :
    states (F := Ideal) whhF whhB bihF bhhF bihB bhhB (k1_pay8 (F := Ideal) x wihF) (k1_pay9 (F := Ideal) x wihB) (k1_pay14, k1_pay14, k1_pay14, k1_pay14) (ix2 (⟨t * 64 + b.val, by omega⟩ : Fin 2880) d)
      = Formula.encoding (weights wihF whhF bihF bhhF) (weights wihB whhB bihB bhhB) (inputs x b) t d := by
  have e1 : (t * 64 + b.val) / 64 = t := by omega
  have e2 : (t * 64 + b.val) % 64 = b.val := by omega
  unfold states Formula.encoding
  by_cases h : d.val < 256
  · rw [dif_pos (show ((ix2 (⟨t * 64 + b.val, by omega⟩ : Fin 2880) d : S2880x512.Idx) 1 : ℕ) < 256 from h), dif_pos h]
    refine Eq.trans ?_ (congrFun (carried_at wihF whhF bihF bhhF wihB whhB bihB bhhB x b (t + 1)).1.1 ⟨d.val, h⟩)
    show (carried _ _ _ _ _ _ _ _ _ ((t * 64 + b.val) / 64 + 1)).1 (ix2 (⟨(t * 64 + b.val) % 64, _⟩ : Fin 64) (⟨d.val, h⟩ : Fin 256)) = _
    simp only [e1, e2]
  · rw [dif_neg (show ¬((ix2 (⟨t * 64 + b.val, by omega⟩ : Fin 2880) d : S2880x512.Idx) 1 : ℕ) < 256 from h), dif_neg h]
    refine Eq.trans ?_ (congrFun (carried_at wihF whhF bihF bhhF wihB whhB bihB bhhB x b (45 - t)).2.1 ⟨d.val - 256, by omega⟩)
    show (carried _ _ _ _ _ _ _ _ _ (45 - (t * 64 + b.val) / 64)).2.2.1 (ix2 (⟨(t * 64 + b.val) % 64, _⟩ : Fin 64) (⟨d.val - 256, _⟩ : Fin 256)) = _
    simp only [e1, e2]

end

end Cert.EncodeIdeal.Body

end
-- ==== Proof.Attention.lean ====
/- What the attention call's result array holds at the extended reals: the attention formula. -/
module

public import proofs.«01_k».proof.Proof.Attn
public import proofs.«01_k».proof.Proof.Formula

@[expose] public section

set_option maxRecDepth 16384

noncomputable section

namespace Cert.EncodeIdeal.Body

open Cert.EncodeIdeal Cert.EncodeIdeal.Gen
open Idealize.ShloMosaic Idealize.ShloMosaic.TcCoe Idealize.ShloMosaic.Tactic
open Idealize.SL Idealize.SL.RA Idealize.SL.BI
open Idealize.ShloMosaic.Pipeline (Dat Cfg Window BodyObligation cellOf)

/-- An array of rank two as a function of its two coordinates. -/
abbrev qf (q : FVec Ideal S64x23040 .f32) : Fin 64 → Fin 23040 → EReal := fun a d => q (ix2 a d)
abbrev kf (k : FVec Ideal S1024x23040 .f32) : Fin 1024 → Fin 23040 → EReal := fun a d => k (ix2 a d)

theorem scale_value : Named.named (F := Ideal) κ "scale" (φ := .f32) 0x3D3504F3#32 = (((Real.sqrt 512)⁻¹ : ℝ) : EReal) :=
  IdealRules.named_const.ideal_named_scalar _ _ _ _ rfl

theorem scores_at (q : FVec Ideal S64x23040 .f32) (k : FVec Ideal S1024x23040 .f32) (a : Fin 64) (b : Fin 1024) :
    scores (F := Ideal) q k (ix2 a b) = Formula.score (qf q) (kf k) a b := by
  unfold scores Formula.score
  have hb := b.isLt
  have e : (b : ℕ) / 128 % 8 * 128 + (b : ℕ) % 128 = b := by omega
  pointwise [k2_pay2, k2_pay1, chunk, scale_value]
  simp only [e]

theorem softmax_at (s : FVec Ideal S64x1024 .f32) (a : Fin 64) (b : Fin 1024) :
    k2_pay3 (F := Ideal) s (ix2 a b) = Formula.soft (fun n : Fin 1024 => s (ix2 a n)) b := by
  unfold Formula.soft
  pointwise [k2_pay3, Formula.ofBits_neg_inf]

theorem probs_at (q : FVec Ideal S64x23040 .f32) (k : FVec Ideal S1024x23040 .f32) (a : Fin 64) (b : Fin 1024) :
    probs (F := Ideal) q k (ix2 a b) = Formula.soft (Formula.score (qf q) (kf k) a) b :=
  (softmax_at _ a b).trans (congrArg (Formula.soft · b) (funext fun n => scores_at q k a n))

theorem acc_succ_at (q : FVec Ideal S64x23040 .f32) (k : FVec Ideal S1024x23040 .f32) (a : Fin 64) (d : Fin 23040) (i : ℕ) (hi : i < 8) :
    acc (F := Ideal) q k (i + 1) (ix2 a d) = acc (F := Ideal) q k i (ix2 a d)
      + ∑ t : Fin 128, (fun n : Fin 1024 => Formula.soft (Formula.score (qf q) (kf k) a) n * kf k n d) ⟨i * 128 + t.val, by omega⟩ := by
  have e : i % 8 = i := Nat.mod_eq_of_lt hi
  simp only [← probs_at]
  rw [acc]
  pointwise [k2_pay5, k2_pay1, chunk, cols]
  simp only [e]

theorem acc_at (q : FVec Ideal S64x23040 .f32) (k : FVec Ideal S1024x23040 .f32) (a : Fin 64) (d : Fin 23040) :
    acc (F := Ideal) q k 8 (ix2 a d) = Formula.attend (qf q) (kf k) a d :=
  Formula.tiled (J := 8) (T := 128) rfl (fun n : Fin 1024 => Formula.soft (Formula.score (qf q) (kf k) a) n * kf k n d)
    (fun n => acc (F := Ideal) q k n (ix2 a d)) (by rw [acc]; pointwise [k2_pay4]) (acc_succ_at q k a d)

end Cert.EncodeIdeal.Body

end
-- ==== Proof.Value.lean ====
/- The kernel's result of its arguments: what the three calls pass to one another, entry by entry on the extended
   reals. -/
module

public import proofs.«01_k».proof.Proof.Run
public import proofs.«01_k».proof.Proof.Cell
public import proofs.«01_k».proof.Proof.Attention
public import Idealize.ShloMosaic.Lib.StableHlo.RunRead
public import Idealize.ShloMosaic.Lib.Tactic

@[expose] public section

set_option maxRecDepth 16384

noncomputable section

namespace Cert.EncodeIdeal.Body

open Cert.EncodeIdeal Cert.EncodeIdeal.Gen
open Idealize.ShloMosaic Idealize.ShloMosaic.TcCoe Idealize.ShloMosaic.Tactic Idealize.ShloMosaic.StableHlo

/-- The linear layer's output of the arguments. -/
abbrev linear (a0 : FVec Ideal S64x5x1500x6 .f32) (a2 : FVec Ideal S45x1500 .f32) (a3 : FVec Ideal S45 .f32) : Fin 64 → ℕ → Fin 30 → EReal :=
  Formula.linear (fun b s t f => a0 (ix4 b s t f)) (fun t s => a2 (ix2 t s)) (fun t => a3 (ix1 t))

/-- The parameters of one direction, of its four arguments. -/
abbrev params (wih : FVec Ideal S1024x30 .f32) (whh : FVec Ideal S1024x256 .f32) (bih bhh : FVec Ideal S1024 .f32) : Formula.Weights where
  wih g f := wih (ix2 g f)
  whh g u := whh (ix2 g u)
  bih g := bih (ix1 g)
  bhh g := bhh (ix1 g)

variable (m : (ℓ : Loc nD τ sig) → Buf (Elt Ideal) ℓ) (ρ : Dev nD → PrngReg) (c : Dev nD)

abbrev arg0 : FVec Ideal S64x5x1500x6 .f32 := m ((c.tc : Thread nD τ).loc main_arg0)
abbrev arg1 : FVec Ideal S1024x45x512 .f32 := m ((c.tc : Thread nD τ).loc main_arg1)
abbrev arg2 : FVec Ideal S45x1500 .f32 := m ((c.tc : Thread nD τ).loc main_arg2)
abbrev arg3 : FVec Ideal S45 .f32 := m ((c.tc : Thread nD τ).loc main_arg3)
abbrev forward : Formula.Weights := params (m ((c.tc : Thread nD τ).loc main_arg4)) (m ((c.tc : Thread nD τ).loc main_arg5)) (m ((c.tc : Thread nD τ).loc main_arg6)) (m ((c.tc : Thread nD τ).loc main_arg7))
abbrev backward : Formula.Weights := params (m ((c.tc : Thread nD τ).loc main_arg8)) (m ((c.tc : Thread nD τ).loc main_arg9)) (m ((c.tc : Thread nD τ).loc main_arg10)) (m ((c.tc : Thread nD τ).loc main_arg11))
abbrev sequence : Fin 64 → ℕ → Fin 30 → EReal := linear (arg0 m c) (arg2 m c) (arg3 m c)

/-! The linear call. -/

theorem samples_at (b : Fin 64) (f : Fin 30) (s : Fin 1500) (r : Fin 1920) (hr : r.val = b.val * 30 + f.val) :
    E0 m ρ c main_v1 (ix2 r s) = arg0 m c (ix4 b (⟨f.val / 6, by omega⟩ : Fin 5) s (⟨f.val % 6, by omega⟩ : Fin 6)) := by
  have e : E0 m ρ c main_v1 = shapeCast S1920x1500 (transpose S64x5x6x1500 [0, 1, 3, 2] (arg0 m c) transposes_S64x5x1500x6_S64x5x6x1500_0_1_3_2) shapeCasts_S64x5x6x1500_S1920x1500 := by
    after_reads_simp
    rfl
  have e1 : r.val / 30 = b.val := by omega
  have e2 : r.val / 6 % 5 = f.val / 6 := by omega
  have e3 : r.val % 6 = f.val % 6 := by omega
  rw [e]
  pointwise
  simp only [e1, e2, e3]

theorem bias_at (t : Fin 45) : E0 m ρ c main_v2 (ix2 (0 : Fin 1) t) = arg3 m c (ix1 t) := by
  have e : E0 m ρ c main_v2 = shapeCast S1x45 (arg3 m c) shapeCasts_S45_S1x45 := by
    after_reads_simp
    rfl
  rw [e]
  pointwise

theorem product_at (x : FVec Ideal S1920x1500 .f32) (w : FVec Ideal S45x1500 .f32) (bias : FVec Ideal S1x45 .f32) (r : Fin 1920) (t : Fin 45) :
    k0_pay1 (F := Ideal) x w bias (ix2 r t) = (∑ s, x (ix2 r s) * w (ix2 t s)) + bias (ix2 (0 : Fin 1) t) := by
  pointwise [k0_pay1]

theorem layer_at (b : Fin 64) (t : ℕ) (f : Fin 30) (r : Fin 1920) (hr : r.val = b.val * 30 + f.val) :
    W2 m ρ c (Proc.devRef .tc main_v3) (ix2 r (⟨t % 45, Nat.mod_lt _ (by decide)⟩ : Fin 45)) = sequence m c b t f := by
  have e : W2 m ρ c (Proc.devRef .tc main_v3) = k0_pay1 (F := Ideal) (E0 m ρ c main_v1) (E0 m ρ c main_arg2) (E0 m ρ c main_v2) :=
    (W2_arr m ρ c 3).trans (final0 (E0 m ρ) c)
  rw [e, product_at, bias_at, show E0 m ρ c main_arg2 = arg2 m c from W1_args m ρ c main_arg2 (by decide)]
  unfold sequence linear Formula.linear
  exact congrArg (· + _) (Finset.sum_congr rfl fun s _ => congrArg (· * _) (samples_at m ρ c b f s r hr))

/-! The recurrent call. -/

theorem steps_at (b : Fin 64) : inputs (E1 m ρ c main_v6) b = sequence m c b := by
  funext t f
  have e : E1 m ρ c main_v6 = shapeCast S2880x30 (transpose S45x64x30 [2, 0, 1] (shapeCast S64x30x45 (W2 m ρ c (Proc.devRef .tc main_v3)) shapeCasts_S1920x45_S64x30x45)
      transposes_S64x30x45_S45x64x30_2_0_1) shapeCasts_S45x64x30_S2880x30 := by
    after_reads_simp
    rfl
  have ht : t % 45 < 45 := Nat.mod_lt _ (by decide)
  have e1 : (t % 45 * 64 + b.val) / 64 = t % 45 := by omega
  have e2 : (t % 45 * 64 + b.val) % 64 = b.val := by omega
  unfold inputs
  rw [← layer_at m ρ c b t f ⟨b.val * 30 + f.val, by omega⟩ rfl, e]
  pointwise
  simp only [e1, e2]

theorem bias7_at (g : Fin 1024) : E1 m ρ c main_v7 (ix2 (0 : Fin 1) g) = (m ((c.tc : Thread nD τ).loc main_arg6)) (ix1 g) := by
  have e : E1 m ρ c main_v7 = shapeCast S1x1024 (W2 m ρ c (Proc.devRef .tc main_arg6)) shapeCasts_S1024_S1x1024 := by
    after_reads_simp
    rfl
  rw [e, W2_args m ρ c main_arg6 (by decide)]
  pointwise

theorem bias8_at (g : Fin 1024) : E1 m ρ c main_v8 (ix2 (0 : Fin 1) g) = (m ((c.tc : Thread nD τ).loc main_arg7)) (ix1 g) := by
  have e : E1 m ρ c main_v8 = shapeCast S1x1024 (W2 m ρ c (Proc.devRef .tc main_arg7)) shapeCasts_S1024_S1x1024 := by
    after_reads_simp
    rfl
  rw [e, W2_args m ρ c main_arg7 (by decide)]
  pointwise

theorem bias9_at (g : Fin 1024) : E1 m ρ c main_v9 (ix2 (0 : Fin 1) g) = (m ((c.tc : Thread nD τ).loc main_arg10)) (ix1 g) := by
  have e : E1 m ρ c main_v9 = shapeCast S1x1024 (W2 m ρ c (Proc.devRef .tc main_arg10)) shapeCasts_S1024_S1x1024 := by
    after_reads_simp
    rfl
  rw [e, W2_args m ρ c main_arg10 (by decide)]
  pointwise

theorem bias10_at (g : Fin 1024) : E1 m ρ c main_v10 (ix2 (0 : Fin 1) g) = (m ((c.tc : Thread nD τ).loc main_arg11)) (ix1 g) := by
  have e : E1 m ρ c main_v10 = shapeCast S1x1024 (W2 m ρ c (Proc.devRef .tc main_arg11)) shapeCasts_S1024_S1x1024 := by
    after_reads_simp
    rfl
  rw [e, W2_args m ρ c main_arg11 (by decide)]
  pointwise

theorem forward_eq : weights (E1 m ρ c main_arg4) (E1 m ρ c main_arg5) (E1 m ρ c main_v7) (E1 m ρ c main_v8) = forward m c := by
  refine (Formula.Weights.mk.injEq ..).mpr ⟨funext fun g => funext fun f => ?_, funext fun g => funext fun u => ?_, funext fun g => ?_, funext fun g => ?_⟩
  · exact congrFun (W3_args m ρ c main_arg4 (by decide)) (ix2 g f)
  · exact congrFun (W3_args m ρ c main_arg5 (by decide)) (ix2 g u)
  · exact bias7_at m ρ c g
  · exact bias8_at m ρ c g

theorem backward_eq : weights (E1 m ρ c main_arg8) (E1 m ρ c main_arg9) (E1 m ρ c main_v9) (E1 m ρ c main_v10) = backward m c := by
  refine (Formula.Weights.mk.injEq ..).mpr ⟨funext fun g => funext fun f => ?_, funext fun g => funext fun u => ?_, funext fun g => ?_, funext fun g => ?_⟩
  · exact congrFun (W3_args m ρ c main_arg8 (by decide)) (ix2 g f)
  · exact congrFun (W3_args m ρ c main_arg9 (by decide)) (ix2 g u)
  · exact bias9_at m ρ c g
  · exact bias10_at m ρ c g

theorem states_out (t : ℕ) (ht : t < 45) (b : Fin 64) (d : Fin 512) :
    W4 m ρ c (Proc.devRef .tc main_v11) (ix2 (⟨t * 64 + b.val, by omega⟩ : Fin 2880) d) = Formula.encoding (forward m c) (backward m c) (sequence m c b) t d := by
  have e : W4 m ρ c (Proc.devRef .tc main_v11) = lstmOut (E1 m ρ) c := (W4_arr m ρ c 9).trans (final1 (E1 m ρ) c)
  rw [e, ← forward_eq m ρ c, ← backward_eq m ρ c, ← steps_at m ρ c b]
  exact states_at _ _ _ _ _ _ _ _ _ t ht b d

/-! The attention call. -/

theorem queries_at (a : Fin 64) : qf (E2 m ρ c main_v14) a = Formula.flat (forward m c) (backward m c) (sequence m c a) := by
  funext i
  have e : E2 m ρ c main_v14 = shapeCast S64x23040 (transpose S64x45x512 [1, 0, 2] (shapeCast S45x64x512 (W4 m ρ c (Proc.devRef .tc main_v11)) shapeCasts_S2880x512_S45x64x512)
      transposes_S45x64x512_S64x45x512_1_0_2) shapeCasts_S64x45x512_S64x23040 := by
    after_reads_simp
    rfl
  unfold Formula.flat
  rw [← states_out m ρ c (i.val / 512) (by omega) a]
  unfold qf
  rw [e]
  pointwise

theorem keys_at (n : Fin 1024) (i : Fin 23040) :
    kf (E2 m ρ c main_v15) n i = arg1 m c (ix3 n (⟨i.val / 512, by omega⟩ : Fin 45) (⟨i.val % 512, by omega⟩ : Fin 512)) := by
  have e : E2 m ρ c main_v15 = shapeCast S1024x23040 (W4 m ρ c (Proc.devRef .tc main_arg1)) shapeCasts_S1024x45x512_S1024x23040 := by
    after_reads_simp
    rfl
  unfold kf
  rw [e, W4_args m ρ c main_arg1 (by decide)]
  pointwise

/-- The kernel's result. -/
theorem result_at (a : Fin 64) (i : Fin 23040) :
    acc (F := Ideal) (E2 m ρ c main_v14) (E2 m ρ c main_v15) 8 (ix2 a i)
      = Formula.attend (fun a => Formula.flat (forward m c) (backward m c) (sequence m c a))
          (fun (n : Fin 1024) (i : Fin 23040) => arg1 m c (ix3 n (⟨i.val / 512, by omega⟩ : Fin 45) (⟨i.val % 512, by omega⟩ : Fin 512))) a i := by
  rw [acc_at, show qf (E2 m ρ c main_v14) = fun a => Formula.flat (forward m c) (backward m c) (sequence m c a) from funext fun a => queries_at m ρ c a]
  exact congrArg (Formula.attend _ · a i) (funext fun n => funext fun i => keys_at m ρ c n i)

end Cert.EncodeIdeal.Body

end
-- ==== Proof.Reference.lean ====
/- The reference's scan: what its loop carries after `k` trips, entry by entry on the extended reals. -/
module

public import proofs.«01_k».proof.Proof.Gen.EncodeRefIdeal.Run
public import proofs.«01_k».proof.Proof.Gen.EncodeRefIdeal.Step
public import proofs.«01_k».proof.Proof.Recur
public import Idealize.ShloMosaic.Lib.Pointwise
public import Idealize.ShloMosaic.Lib.DynamicIndex
public import Idealize.ShloMosaic.Lib.Pipeline.Value

@[expose] public section

set_option maxRecDepth 16384

noncomputable section

namespace Cert.EncodeRefIdeal.Scan

open Idealize.ShloMosaic Idealize.ShloMosaic.TcCoe Idealize.SL.Sem Idealize.ShloMosaic.StableHlo
open Cert.EncodeRefIdeal Cert.EncodeRefIdeal.Gen Cert.EncodeRefIdeal.Value

theorem ofBits_one : Ideal.ofBits .f32 0x3F800000#32 = 1 := by
  simp [Ideal.ofBits, Ideal.ieee, -EReal.coe_mul]; norm_num

/-- The loop's slices start at the trip's number on the leading axis. -/
theorem start_at (k : ℕ) (hk : k < 45) (a : Fin 4) :
    ((![constantI S_ 32 (BitVec.ofNat 32 k), constantI S_ 32 0#32, constantI S_ 32 0#32, constantI S_ 32 0#32] : Fin 4 → (⟨S_, .i32⟩ : BufTy).Contents (Elt Ideal)) a
      (Shape.Idx.first h_S_)).toInt = ((![k, 0, 0, 0] : Fin 4 → ℕ) a : ℤ) := by
  match a with
  | ⟨0, _⟩ => exact toInt_ofNat_of_lt (by omega)
  | ⟨1, _⟩ => rfl
  | ⟨2, _⟩ => rfl
  | ⟨3, _⟩ => rfl

theorem reads (k : ℕ) (hk : k < 45) : S45x2x64x30.Slices ![k, 0, 0, 0] S1x2x64x30 :=
  ⟨rfl, fun a => by
    match a with
    | ⟨0, _⟩ => show k + 1 ≤ 45; omega
    | ⟨1, _⟩ => exact le_refl _
    | ⟨2, _⟩ => exact le_refl _
    | ⟨3, _⟩ => exact le_refl _⟩

theorem writes (k : ℕ) (hk : k < 45) : S45x2x64x256.Slices ![k, 0, 0, 0] S1x2x64x256 :=
  ⟨rfl, fun a => by
    match a with
    | ⟨0, _⟩ => show k + 1 ≤ 45; omega
    | ⟨1, _⟩ => exact le_refl _
    | ⟨2, _⟩ => exact le_refl _
    | ⟨3, _⟩ => exact le_refl _⟩

/-- Direction `d`'s parameters in the loop's constants. -/
abbrev weights (V : Valuation τ sig (Elt Ideal)) (d : Fin 2) : Formula.Weights where
  wih g f := V (Proc.devRef .tc main_v32_1) (ix3 d g f)
  whh g u := V (Proc.devRef .tc main_v32_2) (ix3 d g u)
  bih g := V (Proc.devRef .tc main_v32_3) (ix2 d g)
  bhh g := V (Proc.devRef .tc main_v32_4) (ix2 d g)

/-- Direction `d`'s sequence for one batch row, in the loop's constants. -/
abbrev inputs (V : Valuation τ sig (Elt Ideal)) (d : Fin 2) (b : Fin 64) (t : ℕ) (f : Fin 30) : EReal :=
  V (Proc.devRef .tc main_v32_0) (ix4 (⟨t % 45, Nat.mod_lt _ (by decide)⟩ : Fin 45) d b f)

variable (V : Valuation τ sig (Elt Ideal))

theorem gates_at (k : ℕ) (hk : k < 45) (hc : V (Proc.devRef .tc main_v32_5) = constantI S_ 32 (BitVec.ofNat 32 k)) (d : Fin 2) (b : Fin 64) (g : Fin 1024) :
    res_main_while0b_v68 (F := Ideal) V (ix3 d b g)
      = Formula.gate (weights V d) (inputs V d b k) (fun u => V (Proc.devRef .tc main_v32_6) (ix3 d b u)) g := by
  unfold Formula.gate res_main_while0b_v68
  have e : k % 45 = k := Nat.mod_eq_of_lt hk
  rw [show inputs V d b k = fun x => V (Proc.devRef .tc main_v32_0) (ix4 (⟨k, hk⟩ : Fin 45) d b x) from funext fun x => by unfold inputs; simp only [e]]
  rw [hc, Host.dynamicSlice_eq_extractStridedSlice _ _ _ ![k, 0, 0, 0] _ (reads k hk) (start_at k hk)]
  pointwise

theorem cell_at (d : Fin 2) (b : Fin 64) (u : Fin 256) :
    res_main_while0b_v94 (F := Ideal) V (ix3 d b u)
      = Formula.cellC (fun g => res_main_while0b_v68 (F := Ideal) V (ix3 d b g)) (fun u => V (Proc.devRef .tc main_v32_7) (ix3 d b u)) u := by
  unfold Formula.cellC res_main_while0b_v94 Ideal.logistic
  pointwise [ofBits_one]

theorem hidden_at (d : Fin 2) (b : Fin 64) (u : Fin 256) :
    res_main_while0b_v96 (F := Ideal) V (ix3 d b u)
      = Formula.cellH (fun g => res_main_while0b_v68 (F := Ideal) V (ix3 d b g)) (fun u => V (Proc.devRef .tc main_v32_7) (ix3 d b u)) u := by
  unfold Formula.cellH
  rw [← cell_at]
  unfold res_main_while0b_v96 Ideal.logistic
  pointwise [ofBits_one]

theorem put_at (k : ℕ) (hk : k < 45) (hc : V (Proc.devRef .tc main_v32_5) = constantI S_ 32 (BitVec.ofNat 32 k)) (t : Fin 45) (d : Fin 2) (b : Fin 64) (u : Fin 256) :
    step_main_v32_8 (F := Ideal) V (ix4 t d b u)
      = if t.val = k then res_main_while0b_v96 (F := Ideal) V (ix3 d b u) else V (Proc.devRef .tc main_v32_8) (ix4 t d b u) := by
  unfold step_main_v32_8
  show Host.dynamicUpdateSlice (s := S45x2x64x256) (u := S1x2x64x256) _ _ _ _ _ = _
  rw [hc, Host.dynamicUpdateSlice_eq_updateSlice (s := S45x2x64x256) (u := S1x2x64x256) _ _ _ _ ![k, 0, 0, 0]
    (fun a => by have h := (writes k hk).2 a; rw [start_at k hk a]; omega) (writes k hk)]
  pointwise
  have hd := d.isLt; have hb := b.isLt; have hu := u.isLt
  by_cases ht : t.val = k
  · rw [if_pos ht, dif_pos (by omega)]
  · rw [if_neg ht, dif_neg (by omega)]

/-- What the loop carries after `k` trips, from the constants `V0` holds. -/
structure Carries (V0 : Valuation τ sig (Elt Ideal)) (k : ℕ) (V : Valuation τ sig (Elt Ideal)) : Prop where
  number : V (Proc.devRef .tc main_v32_5) = constantI S_ 32 (BitVec.ofNat 32 k)
  hidden : ∀ d b, (fun u => V (Proc.devRef .tc main_v32_6) (ix3 d b u)) = (Formula.lstm (weights V0 d) (inputs V0 d b) k).1
  cell : ∀ d b, (fun u => V (Proc.devRef .tc main_v32_7) (ix3 d b u)) = (Formula.lstm (weights V0 d) (inputs V0 d b) k).2
  past : ∀ t d b u, t.val < k → V (Proc.devRef .tc main_v32_8) (ix4 t d b u) = (Formula.lstm (weights V0 d) (inputs V0 d b) (t.val + 1)).1 u
  seq : V (Proc.devRef .tc main_v32_0) = V0 (Proc.devRef .tc main_v32_0)
  wih : V (Proc.devRef .tc main_v32_1) = V0 (Proc.devRef .tc main_v32_1)
  whh : V (Proc.devRef .tc main_v32_2) = V0 (Proc.devRef .tc main_v32_2)
  bih : V (Proc.devRef .tc main_v32_3) = V0 (Proc.devRef .tc main_v32_3)
  bhh : V (Proc.devRef .tc main_v32_4) = V0 (Proc.devRef .tc main_v32_4)

theorem carries_succ (V0 V : Valuation τ sig (Elt Ideal)) (k : ℕ) (hk : k < 45) (h : Carries V0 k V) : Carries V0 (k + 1) (STEP V) := by
  have hw : ∀ d, weights V d = weights V0 d := fun d => by unfold weights; rw [h.wih, h.whh, h.bih, h.bhh]
  have hi : ∀ d b, inputs V d b = inputs V0 d b := fun d b => by unfold inputs; rw [h.seq]
  have hg : ∀ d b, (fun g => res_main_while0b_v68 (F := Ideal) V (ix3 d b g))
      = Formula.gate (weights V0 d) (inputs V0 d b k) (Formula.lstm (weights V0 d) (inputs V0 d b) k).1 := fun d b => funext fun g => by
    rw [gates_at V k hk h.number, hw, hi, h.hidden]
  have hh : ∀ d b, (fun u => res_main_while0b_v96 (F := Ideal) V (ix3 d b u)) = (Formula.lstm (weights V0 d) (inputs V0 d b) (k + 1)).1 :=
    fun d b => funext fun u => by rw [hidden_at, hg, h.cell, Formula.lstm]
  constructor
  · rw [STEP_main_v32_5]
    unfold step_main_v32_5
    rw [h.number]
    funext i
    show BitVec.ofNat 32 k + 1#32 = BitVec.ofNat 32 (k + 1)
    rw [BitVec.ofNat_add]
  · intro d b
    rw [STEP_main_v32_6]
    exact hh d b
  · intro d b
    rw [STEP_main_v32_7]
    show (fun u => res_main_while0b_v94 (F := Ideal) V (ix3 d b u)) = _
    funext u
    rw [cell_at, hg, h.cell, Formula.lstm]
  · intro t d b u ht
    rw [STEP_main_v32_8, put_at V k hk h.number]
    by_cases e : t.val = k
    · rw [if_pos e, e]; exact congrFun (hh d b) u
    · rw [if_neg e]; exact h.past t d b u (by omega)
  · exact (STEP_main_v32_0 V).trans h.seq
  · exact (STEP_main_v32_1 V).trans h.wih
  · exact (STEP_main_v32_2 V).trans h.whh
  · exact (STEP_main_v32_3 V).trans h.bih
  · exact (STEP_main_v32_4 V).trans h.bhh

theorem carries (V0 : Valuation τ sig (Elt Ideal)) (h0 : Carries V0 0 V0) : ∀ k ≤ 45, Carries V0 k (STEP^[k] V0)
  | 0, _ => h0
  | k + 1, hk => by
    rw [Function.iterate_succ_apply']
    exact carries_succ V0 _ k (by omega) (carries V0 h0 k (by omega))

variable (m : (ℓ : Loc nD τ sig) → Buf (Elt Ideal) ℓ) (c : Dev nD)

/-- The encoding as the loop's stacked hidden states give it: time `t`, direction 0, then direction 1 read from the end. -/
def encoded (H : FVec Ideal S45x2x64x256 .f32) (a : Fin 64) (t : Fin 45) (d : Fin 512) : EReal :=
  if h : d.val < 256 then H (ix4 t (0 : Fin 2) a (⟨d.val, h⟩ : Fin 256))
  else H (ix4 (⟨44 - t.val, by omega⟩ : Fin 45) (1 : Fin 2) a (⟨d.val - 256, by omega⟩ : Fin 256))

theorem reversed (x : FVec Ideal S64x45x256 .f32) :
    Host.reverse [1] x = fun j => x (ix3 (j 0 : Fin 64) (j 1 : Fin 45).rev (j 2 : Fin 256)) := by
  funext j
  unfold Host.reverse
  congr 1
  funext i
  match i with
  | ⟨0, _⟩ => rfl
  | ⟨1, _⟩ => rfl
  | ⟨2, _⟩ => rfl

theorem score_sum (H : FVec Ideal S45x2x64x256 .f32) (D : FVec Ideal S1024x45x512 .f32) (a : Fin 64) (n : Fin 1024) :
    (∑ u : Fin 256, ∑ t : Fin 45, H (ix4 t (0 : Fin 2) a u) * D (ix3 n t (⟨u.val, by omega⟩ : Fin 512)))
      + (∑ u : Fin 256, ∑ t : Fin 45, H (ix4 t.rev (1 : Fin 2) a u) * D (ix3 n t (⟨256 + u.val, by omega⟩ : Fin 512)))
      = ∑ i : Fin 23040, encoded H a ⟨i.val / 512, by omega⟩ ⟨i.val % 512, by omega⟩
          * D (ix3 n (⟨i.val / 512, by omega⟩ : Fin 45) (⟨i.val % 512, by omega⟩ : Fin 512)) := by
  rw [← Formula.sum_halves (fun t d => encoded H a t d * D (ix3 n t d))]
  refine congrArg₂ (· + ·) (Finset.sum_congr rfl fun u _ => Finset.sum_congr rfl fun t _ => ?_) (Finset.sum_congr rfl fun u _ => Finset.sum_congr rfl fun t _ => ?_)
  · rw [encoded, dif_pos u.isLt]
  · rw [encoded, dif_neg (show ¬256 + u.val < 256 by omega)]
    have e : t.rev = (⟨44 - t.val, by omega⟩ : Fin 45) := Fin.ext (by rw [Fin.val_rev]; show 45 - (t.val + 1) = 44 - t.val; omega)
    rw [e]
    simp only [Nat.add_sub_cancel_left]

theorem out_at (V : Valuation τ sig (Elt Ideal)) (H : FVec Ideal S45x2x64x256 .f32) (D : FVec Ideal S1024x45x512 .f32)
    (hH : V (Proc.devRef .tc main_v32_8) = H) (hD : V (Proc.devRef .tc main_arg1) = D) (a : Fin 64) (i : Fin 23040) :
    out_main_v56 (F := Ideal) V (ix2 a i)
      = Formula.attend (fun a (i : Fin 23040) => encoded H a ⟨i.val / 512, by omega⟩ ⟨i.val % 512, by omega⟩)
          (fun (n : Fin 1024) (i : Fin 23040) => D (ix3 n (⟨i.val / 512, by omega⟩ : Fin 45) (⟨i.val % 512, by omega⟩ : Fin 512))) a i := by
  unfold out_main_v56
  rw [hH, hD, reversed]
  pointwise
  simp only [score_sum, Formula.ofBits_neg_inf, Formula.ofBits_512, Formula.div_sqrt, max_bot_left]
  rfl

section
variable (a0 : FVec Ideal S64x5x1500x6 .f32) (a2 : FVec Ideal S45x1500 .f32) (a3 : FVec Ideal S45 .f32)
  (a4 : FVec Ideal S1024x30 .f32) (a5 : FVec Ideal S1024x256 .f32) (a6 a7 : FVec Ideal S1024 .f32)
  (a8 : FVec Ideal S1024x30 .f32) (a9 : FVec Ideal S1024x256 .f32) (a10 a11 : FVec Ideal S1024 .f32)

/-- The linear layer's output of the arguments. -/
abbrev linear : Fin 64 → ℕ → Fin 30 → EReal :=
  Formula.linear (fun b s t f => a0 (ix4 b s t f)) (fun t s => a2 (ix2 t s)) (fun t => a3 (ix1 t))

theorem layer_at (b : Fin 64) (t : Fin 45) (f : Fin 30) :
    Step.A_main_v8 (F := Ideal) a0 a2 a3 a4 a5 a6 a7 a8 a9 a10 a11 (ix3 b t f) = linear a0 a2 a3 b t.val f := by
  have e : t.val % 45 = t.val := Nat.mod_eq_of_lt t.isLt
  unfold linear Formula.linear
  simp only [e]
  pointwise [Step.A_main_v0, Step.A_main_v1, Step.A_main_v2, Step.A_main_v3, Step.A_main_v4, Step.A_main_v5, Step.A_main_v6, Step.A_main_v7, Step.A_main_v8]

theorem seq0_at (b : Fin 64) (t : Fin 45) (f : Fin 30) :
    Step.A_main_v30 (F := Ideal) a0 a2 a3 a4 a5 a6 a7 a8 a9 a10 a11 (ix4 t (0 : Fin 2) b f) = Step.A_main_v8 (F := Ideal) a0 a2 a3 a4 a5 a6 a7 a8 a9 a10 a11 (ix3 b t f) := by
  pointwise [Step.A_main_v30, Step.A_main_v27, Step.A_main_v12, Step.A_main_v10, Step.A_main_v11, Step.A_main_v9]

theorem seq1_at (b : Fin 64) (t : Fin 45) (f : Fin 30) :
    Step.A_main_v30 (F := Ideal) a0 a2 a3 a4 a5 a6 a7 a8 a9 a10 a11 (ix4 t (1 : Fin 2) b f) = Step.A_main_v8 (F := Ideal) a0 a2 a3 a4 a5 a6 a7 a8 a9 a10 a11 (ix3 b t.rev f) := by
  pointwise [Step.A_main_v30, Step.A_main_v27, Step.A_main_v12, Step.A_main_v10, Step.A_main_v11, Step.A_main_v9]
  rfl

theorem wih_at (d : Fin 2) (g : Fin 1024) (f : Fin 30) :
    Step.A_main_v15 (F := Ideal) a0 a2 a3 a4 a5 a6 a7 a8 a9 a10 a11 (ix3 d g f) = if d.val = 0 then a4 (ix2 g f) else a8 (ix2 g f) := by
  match d with
  | 0 => pointwise [Step.A_main_v15, Step.A_main_v13, Step.A_main_v14]
  | 1 => pointwise [Step.A_main_v15, Step.A_main_v13, Step.A_main_v14]

theorem whh_at (d : Fin 2) (g : Fin 1024) (f : Fin 256) :
    Step.A_main_v18 (F := Ideal) a0 a2 a3 a4 a5 a6 a7 a8 a9 a10 a11 (ix3 d g f) = if d.val = 0 then a5 (ix2 g f) else a9 (ix2 g f) := by
  match d with
  | 0 => pointwise [Step.A_main_v18, Step.A_main_v16, Step.A_main_v17]
  | 1 => pointwise [Step.A_main_v18, Step.A_main_v16, Step.A_main_v17]

theorem bih_at (d : Fin 2) (g : Fin 1024) :
    Step.A_main_v21 (F := Ideal) a0 a2 a3 a4 a5 a6 a7 a8 a9 a10 a11 (ix2 d g) = if d.val = 0 then a6 (ix1 g) else a10 (ix1 g) := by
  match d with
  | 0 => pointwise [Step.A_main_v21, Step.A_main_v19, Step.A_main_v20]
  | 1 => pointwise [Step.A_main_v21, Step.A_main_v19, Step.A_main_v20]

theorem bhh_at (d : Fin 2) (g : Fin 1024) :
    Step.A_main_v24 (F := Ideal) a0 a2 a3 a4 a5 a6 a7 a8 a9 a10 a11 (ix2 d g) = if d.val = 0 then a7 (ix1 g) else a11 (ix1 g) := by
  match d with
  | 0 => pointwise [Step.A_main_v24, Step.A_main_v22, Step.A_main_v23]
  | 1 => pointwise [Step.A_main_v24, Step.A_main_v22, Step.A_main_v23]

end

abbrev pre (c : Dev nD) : Valuation τ sig (Elt Ideal) := entryContents preI m c

theorem entry_seq : pre m c (Proc.devRef .tc main_v32_0) = Step.A_main_v30 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  simp only [entryContents, afterL_cons, afterL_nil]
  after_reads_simp
  rfl

theorem entry_wih : pre m c (Proc.devRef .tc main_v32_1) = Step.A_main_v15 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  simp only [entryContents, afterL_cons, afterL_nil]
  after_reads_simp
  rfl

theorem entry_whh : pre m c (Proc.devRef .tc main_v32_2) = Step.A_main_v18 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  simp only [entryContents, afterL_cons, afterL_nil]
  after_reads_simp
  rfl

theorem entry_bih : pre m c (Proc.devRef .tc main_v32_3) = Step.A_main_v21 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  simp only [entryContents, afterL_cons, afterL_nil]
  after_reads_simp
  rfl

theorem entry_bhh : pre m c (Proc.devRef .tc main_v32_4) = Step.A_main_v24 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  simp only [entryContents, afterL_cons, afterL_nil]
  after_reads_simp
  rfl

/-- The parameters of one direction, of its four arguments. -/
abbrev params (wih : FVec Ideal S1024x30 .f32) (whh : FVec Ideal S1024x256 .f32) (bih bhh : FVec Ideal S1024 .f32) : Formula.Weights where
  wih g f := wih (ix2 g f)
  whh g u := whh (ix2 g u)
  bih g := bih (ix1 g)
  bhh g := bhh (ix1 g)

theorem weights0 : weights (pre m c) 0 = params (m ((c.tc : Thread nD τ).loc main_arg4)) (m ((c.tc : Thread nD τ).loc main_arg5)) (m ((c.tc : Thread nD τ).loc main_arg6)) (m ((c.tc : Thread nD τ).loc main_arg7)) := by
  unfold weights
  rw [entry_wih, entry_whh, entry_bih, entry_bhh]
  simp only [wih_at, whh_at, bih_at, bhh_at]
  rfl

theorem weights1 : weights (pre m c) 1 = params (m ((c.tc : Thread nD τ).loc main_arg8)) (m ((c.tc : Thread nD τ).loc main_arg9)) (m ((c.tc : Thread nD τ).loc main_arg10)) (m ((c.tc : Thread nD τ).loc main_arg11)) := by
  unfold weights
  rw [entry_wih, entry_whh, entry_bih, entry_bhh]
  simp only [wih_at, whh_at, bih_at, bhh_at]
  rfl

theorem inputs0 (b : Fin 64) (t : ℕ) (ht : t < 45) : inputs (pre m c) 0 b t = linear (m ((c.tc : Thread nD τ).loc main_arg0)) (m ((c.tc : Thread nD τ).loc main_arg2)) (m ((c.tc : Thread nD τ).loc main_arg3)) b t := by
  funext f
  unfold inputs
  rw [entry_seq, seq0_at, layer_at]
  simp only [Nat.mod_eq_of_lt ht]

theorem inputs1 (b : Fin 64) (t : ℕ) (ht : t < 45) : inputs (pre m c) 1 b t = Formula.back (linear (m ((c.tc : Thread nD τ).loc main_arg0)) (m ((c.tc : Thread nD τ).loc main_arg2)) (m ((c.tc : Thread nD τ).loc main_arg3)) b) t := by
  funext f
  unfold inputs Formula.back
  rw [entry_seq, seq1_at, layer_at, Fin.val_rev]
  simp only [Nat.mod_eq_of_lt ht]
  rw [show 45 - (t + 1) = 44 - t by omega]

theorem entry_carries : Carries (pre m c) 0 (pre m c) := by
  constructor
  · simp only [entryContents, afterL_cons, afterL_nil]
    after_reads_simp
    rfl
  · intro d b
    rw [show pre m c (Proc.devRef .tc main_v32_6) = Step.K_main_v28 by
      simp only [entryContents, afterL_cons, afterL_nil]
      after_reads_simp
      rfl]
    funext u
    unfold Formula.lstm
    pointwise [Step.K_main_v28, Step.K_main_v25, Step.K_main_cst]
  · intro d b
    rw [show pre m c (Proc.devRef .tc main_v32_7) = Step.K_main_v29 by
      simp only [entryContents, afterL_cons, afterL_nil]
      after_reads_simp
      rfl]
    funext u
    unfold Formula.lstm
    pointwise [Step.K_main_v29, Step.K_main_v26, Step.K_main_cst_0]
  · intro t d b u h
    exact absurd h (Nat.not_lt_zero _)
  all_goals rfl

/-- The forward and the backward parameters and the sequences of the arguments. -/
abbrev forward : Formula.Weights := params (m ((c.tc : Thread nD τ).loc main_arg4)) (m ((c.tc : Thread nD τ).loc main_arg5)) (m ((c.tc : Thread nD τ).loc main_arg6)) (m ((c.tc : Thread nD τ).loc main_arg7))
abbrev backward : Formula.Weights := params (m ((c.tc : Thread nD τ).loc main_arg8)) (m ((c.tc : Thread nD τ).loc main_arg9)) (m ((c.tc : Thread nD τ).loc main_arg10)) (m ((c.tc : Thread nD τ).loc main_arg11))
abbrev sequence : Fin 64 → ℕ → Fin 30 → EReal := linear (m ((c.tc : Thread nD τ).loc main_arg0)) (m ((c.tc : Thread nD τ).loc main_arg2)) (m ((c.tc : Thread nD τ).loc main_arg3))

theorem encoded_at (a : Fin 64) (t : Fin 45) (d : Fin 512) :
    encoded ((STEP^[45] (pre m c)) (Proc.devRef .tc main_v32_8)) a t d = Formula.encoding (forward m c) (backward m c) (sequence m c a) t.val d := by
  have h := carries (pre m c) (entry_carries m c) 45 le_rfl
  have ht := t.isLt
  unfold encoded Formula.encoding
  by_cases hd : d.val < 256
  · rw [dif_pos hd, dif_pos hd, h.past _ _ _ _ ht, weights0, Formula.lstm_congr _ (t.val + 1) fun i hi => inputs0 m c a i (by omega)]
  · rw [dif_neg hd, dif_neg hd, h.past _ _ _ _ (by show 44 - t.val < 45; omega), weights1]
    rw [show (⟨44 - t.val, by omega⟩ : Fin 45).val + 1 = 45 - t.val by show 44 - t.val + 1 = 45 - t.val; omega,
      Formula.lstm_congr _ (45 - t.val) fun i hi => inputs1 m c a i (by omega)]

/-- The reference's result. -/
theorem result_at (a : Fin 64) (i : Fin 23040) :
    out_main_v56 (F := Ideal) (STEP^[45] (pre m c)) (ix2 a i)
      = Formula.attend (fun a => Formula.flat (forward m c) (backward m c) (sequence m c a))
          (fun (n : Fin 1024) (i : Fin 23040) => (m ((c.tc : Thread nD τ).loc main_arg1)) (ix3 n (⟨i.val / 512, by omega⟩ : Fin 45) (⟨i.val % 512, by omega⟩ : Fin 512))) a i := by
  rw [out_at _ _ (m ((c.tc : Thread nD τ).loc main_arg1)) rfl (iter_main_arg1 m c 45)]
  exact congrArg (Formula.attend · _ a i) (funext fun a => funext fun i => encoded_at m c a _ _)

end Cert.EncodeRefIdeal.Scan

end
-- ==== Proof.Claims.lean ====
/- The claims about the encoder and the attention. -/
module

public import proofs.«01_k».proof.Defs
public import proofs.«01_k».proof.Proof.Value
public import proofs.«01_k».proof.Proof.BitsRun
public import proofs.«01_k».proof.Proof.Reference
public import Idealize.ShloMosaic.Lib.Quiescent
public import Idealize.ShloMosaic.Adequacy
public import Idealize.ShloMosaic.Init

@[expose] public section

set_option maxRecDepth 16384

noncomputable section

namespace Cert.EncodeClaims

open Idealize.ShloMosaic Idealize.ShloMosaic.TcCoe Idealize.ShloMosaic.Tactic Idealize.SL.Sem Cert.Encode

theorem frame_p : Cert.quiescent_Encode := fun m g _ => Cert.Encode.Body.frame m g
theorem frame_pi : Cert.quiescent_EncodeIdeal := fun m g _ => Cert.EncodeIdeal.Body.frame m g
theorem frame_ri : Cert.quiescent_EncodeRefIdeal := fun m g _ =>
  (θ_run Cert.EncodeRefIdeal.defs _ _).mono (fun r h => ⟨fun c => (h c).2, sem_eq_zero_of_no_sems (by decide) r.2⟩)
    (Cert.EncodeRefIdeal.Value.run m g)

theorem preserves : Cert.preserves_Encode_EncodeIdeal :=
  IdealRules.named_const.statement Cert.EncodeIdeal.κ "scale" .f32 0x3D3504F3#32 (((Real.sqrt 512)⁻¹ : ℝ) : EReal) rfl

/-- On equal arguments both programs hold the same value. -/
theorem same (m : (ℓ : Loc Cert.EncodeIdeal.nD Cert.EncodeIdeal.τ Cert.EncodeIdeal.sig) → Buf (Elt Ideal) ℓ) (g : Dev Cert.EncodeIdeal.nD → PrngReg)
    (m' : (ℓ : Loc Cert.EncodeRefIdeal.nD Cert.EncodeRefIdeal.τ Cert.EncodeRefIdeal.sig) → Buf (Elt Ideal) ℓ) (c : Dev Cert.EncodeIdeal.nD)
    (h0 : m' ((c.tc : Thread Cert.EncodeRefIdeal.nD Cert.EncodeRefIdeal.τ).loc Cert.EncodeRefIdeal.main_arg0) = m ((c.tc : Thread Cert.EncodeIdeal.nD Cert.EncodeIdeal.τ).loc Cert.EncodeIdeal.main_arg0))
    (h1 : m' ((c.tc : Thread Cert.EncodeRefIdeal.nD Cert.EncodeRefIdeal.τ).loc Cert.EncodeRefIdeal.main_arg1) = m ((c.tc : Thread Cert.EncodeIdeal.nD Cert.EncodeIdeal.τ).loc Cert.EncodeIdeal.main_arg1))
    (h2 : m' ((c.tc : Thread Cert.EncodeRefIdeal.nD Cert.EncodeRefIdeal.τ).loc Cert.EncodeRefIdeal.main_arg2) = m ((c.tc : Thread Cert.EncodeIdeal.nD Cert.EncodeIdeal.τ).loc Cert.EncodeIdeal.main_arg2))
    (h3 : m' ((c.tc : Thread Cert.EncodeRefIdeal.nD Cert.EncodeRefIdeal.τ).loc Cert.EncodeRefIdeal.main_arg3) = m ((c.tc : Thread Cert.EncodeIdeal.nD Cert.EncodeIdeal.τ).loc Cert.EncodeIdeal.main_arg3))
    (h4 : m' ((c.tc : Thread Cert.EncodeRefIdeal.nD Cert.EncodeRefIdeal.τ).loc Cert.EncodeRefIdeal.main_arg4) = m ((c.tc : Thread Cert.EncodeIdeal.nD Cert.EncodeIdeal.τ).loc Cert.EncodeIdeal.main_arg4))
    (h5 : m' ((c.tc : Thread Cert.EncodeRefIdeal.nD Cert.EncodeRefIdeal.τ).loc Cert.EncodeRefIdeal.main_arg5) = m ((c.tc : Thread Cert.EncodeIdeal.nD Cert.EncodeIdeal.τ).loc Cert.EncodeIdeal.main_arg5))
    (h6 : m' ((c.tc : Thread Cert.EncodeRefIdeal.nD Cert.EncodeRefIdeal.τ).loc Cert.EncodeRefIdeal.main_arg6) = m ((c.tc : Thread Cert.EncodeIdeal.nD Cert.EncodeIdeal.τ).loc Cert.EncodeIdeal.main_arg6))
    (h7 : m' ((c.tc : Thread Cert.EncodeRefIdeal.nD Cert.EncodeRefIdeal.τ).loc Cert.EncodeRefIdeal.main_arg7) = m ((c.tc : Thread Cert.EncodeIdeal.nD Cert.EncodeIdeal.τ).loc Cert.EncodeIdeal.main_arg7))
    (h8 : m' ((c.tc : Thread Cert.EncodeRefIdeal.nD Cert.EncodeRefIdeal.τ).loc Cert.EncodeRefIdeal.main_arg8) = m ((c.tc : Thread Cert.EncodeIdeal.nD Cert.EncodeIdeal.τ).loc Cert.EncodeIdeal.main_arg8))
    (h9 : m' ((c.tc : Thread Cert.EncodeRefIdeal.nD Cert.EncodeRefIdeal.τ).loc Cert.EncodeRefIdeal.main_arg9) = m ((c.tc : Thread Cert.EncodeIdeal.nD Cert.EncodeIdeal.τ).loc Cert.EncodeIdeal.main_arg9))
    (h10 : m' ((c.tc : Thread Cert.EncodeRefIdeal.nD Cert.EncodeRefIdeal.τ).loc Cert.EncodeRefIdeal.main_arg10) = m ((c.tc : Thread Cert.EncodeIdeal.nD Cert.EncodeIdeal.τ).loc Cert.EncodeIdeal.main_arg10))
    (h11 : m' ((c.tc : Thread Cert.EncodeRefIdeal.nD Cert.EncodeRefIdeal.τ).loc Cert.EncodeRefIdeal.main_arg11) = m ((c.tc : Thread Cert.EncodeIdeal.nD Cert.EncodeIdeal.τ).loc Cert.EncodeIdeal.main_arg11))
    (a : Fin 64) (i : Fin 23040) :
    Cert.EncodeRefIdeal.Value.out_main_v56 (F := Ideal) (Cert.EncodeRefIdeal.Value.STEP^[45] (Cert.EncodeRefIdeal.Scan.pre m' c)) (ix2 a i)
      = Cert.EncodeIdeal.Body.acc (F := Ideal) (Cert.EncodeIdeal.Body.E2 m g c Cert.EncodeIdeal.main_v14) (Cert.EncodeIdeal.Body.E2 m g c Cert.EncodeIdeal.main_v15) 8 (ix2 a i) := by
  rw [Cert.EncodeRefIdeal.Scan.result_at, Cert.EncodeIdeal.Body.result_at]
  unfold Cert.EncodeRefIdeal.Scan.forward Cert.EncodeRefIdeal.Scan.backward Cert.EncodeRefIdeal.Scan.sequence
  rw [h0, h1, h2, h3, h4, h5, h6, h7, h8, h9, h10, h11]

theorem algebraic : Cert.algebraic_EncodeIdeal_EncodeRefIdeal := by
  intro m g m' g' _ hagree
  refine ⟨_, Cert.EncodeIdeal.Body.result m g, ?_⟩
  refine (θ_run Cert.EncodeRefIdeal.defs _ _).mono (fun r h c => ⟨(h c).1.trans ?_, (h c).2⟩) (Cert.EncodeRefIdeal.Value.run m' g')
  obtain ⟨h0, h1, h2, h3, h4, h5, h6, h7, h8, h9, h10, h11⟩ := hagree c
  funext j
  idx_vars j
  exact same m g m' c h0 h1 h2 h3 h4 h5 h6 h7 h8 h9 h10 h11 _ _

end Cert.EncodeClaims

end
-- ==== Proof.RankBody.lean ====
module

public import proofs.«01_k».proof.Defs
public import proofs.«01_k».proof.Proof.Gen.RankIdeal
public import proofs.«01_k».proof.Proof.Gen.RankIdeal.Skeleton
public import proofs.«01_k».proof.Proof.Gen.RankIdeal.Launch
public import proofs.«01_k».proof.Proof.Gen.RankIdeal.Points
public import proofs.«01_k».proof.Proof.Gen.RankIdeal.Frame
public import Idealize.ShloMosaic.Lib.Pipeline.ValueKit
public import Idealize.ShloMosaic.Lib.Pointwise
public import Idealize.ShloMosaic.Lib.VecWindow
public import Idealize.ShloMosaic.Lib.Pipeline.TableIdle

@[expose] public section

set_option maxRecDepth 16384

noncomputable section

namespace Cert.RankIdeal.Body

open Cert.RankIdeal Cert.RankIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Block `i` of the key matrix: rows `128 i`, …, `128 i + 127`. -/
def chunk (k : Vec F S1024x23040 .f32) (i : ℕ) : Vec F S128x23040 .f32 :=
  fun j => k (ix2 (⟨i % 8 * 128 + (j 0 : ℕ), by have := (j 0).isLt; change (j 0 : ℕ) < 128 at this; omega⟩ : Fin 1024) (j 1))

/-- The score matrix, block of columns by block of columns as the first sweep computes it. -/
def scores (q : Vec F S64x23040 .f32) (k : Vec F S1024x23040 .f32) : Vec F S64x1024 .f32 :=
  fun j => k0_pay1 (chunk k ((j 1 : ℕ) / 128)) q (ix2 (j 0) (⟨(j 1 : ℕ) % 128, Nat.mod_lt _ (by decide)⟩ : Fin 128))

/-- The three columns of indices (and zeros beside them) that the last point forms from the whole score matrix. -/
def picked (s : Vec F S64x1024 .f32) : Vec F S64x128 .i32 :=
  k0_pay2 (iota .tc S64x128 32 [1] iota_S64x128_d1_w32) (k0_pay6 s) (k0_pay7 s)

abbrev cond1 (i : grid0.Coords) : Prop := k0_cond1 i = 1#1

theorem hcond1 : ∀ t : Fin cfg0.N, cond1 (grid0.coords t) ↔ t.val = 7 :=
  (by decide +kernel : ∀ t : Fin grid0.N, cond1 (grid0.coords t) ↔ t.val = 7)
theorem hoff1 : ∀ t : Fin cfg0.N, k0_off1 (grid0.coords t) = ![0, t.val % 8 * 128] :=
  (by decide +kernel : ∀ t : Fin grid0.N, k0_off1 (grid0.coords t) = ![0, t.val % 8 * 128])
theorem hidle2 : ∀ t : Fin cfg0.N, cfg0.idle 2 (grid0.coords t) = decide (t.val < 7) :=
  (by decide +kernel : ∀ t : Fin grid0.N, cfg0.idle 2 (grid0.coords t) = decide (t.val < 7))

/-- The score scratch after point `t` of the first sweep has stored its block of columns. -/
abbrev put (s : Vec F S64x1024 .f32) (i : ℕ) (b : Vec F S64x128 .f32) : Vec F S64x1024 .f32 :=
  VecWindow.put s ![0, i % 8 * 128] S64x128.size b

section
variable (c : Dev nD) (t : Fin cfg0.N) (arg1 : Memref sig .tc .vmem S64x23040 .f32) (harg1 : arg1.IsWhole) (arg2 : Memref sig .tc .vmem S128x23040 .f32) (harg2 : arg2.IsWhole) (arg3 : Memref sig .tc .vmem S64x128 .i32) (harg3 : arg3.IsWhole) (arg4 : Memref sig .tc .vmem S64x1024 .f32) (harg4 : arg4.IsWhole)

set_option maxHeartbeats 1000000 in
/-- The body before the last point: its block of scores is stored. -/
theorem run_A (h1 : ¬cond1 (grid0.coords t))
    (x0 : Vec F S64x23040 .f32) (x1 : Vec F S128x23040 .f32) (xs : Vec F S64x1024 .f32) (E : Set ℕ) (K : PUnit → sProp 𝕄) :
    iprop(owns (c : Thread nD τ) arg1 fullShare x0 ∗ owns (c : Thread nD τ) arg2 fullShare x1 ∗ owns (c : Thread nD τ) arg4 fullShare xs
        ∗ (iprop(owns (c : Thread nD τ) arg1 fullShare x0 ∗ owns (c : Thread nD τ) arg2 fullShare x1
            ∗ owns (c : Thread nD τ) arg4 fullShare (put xs t.val (k0_pay1 x1 x0))) -∗ K ⟨⟩))
      ⊢ wp frame (wpE (defs₀ (F := F)) Variants.none c none) E (cc0__sims_body (grid0.coords t) arg1 harg1 arg2 harg2 arg3 harg3 arg4 harg4) K := by
  simp only [cc0__sims_body_eq_skeleton]; unfold cc0__sims_body_skel
  unfold owns
  iintro ⟨⟨%f0, %hf0, H0⟩, ⟨%f1, %hf1, H1⟩, ⟨%fs, %hfs, HS⟩, Hk⟩
  obtain rfl := harg1.eq_unread hf0; obtain rfl := harg2.eq_unread hf1; obtain rfl := harg4.eq_unread hfs
  sl_exec (disch := first | sl_exact h1)
  sl_step
  iapply Hk
  isplitl [H0]
  · iexists _; isplitr; · ipureintro; exact harg1.read_unread _
    iexact H0
  isplitl [H1]
  · iexists _; isplitr; · ipureintro; exact harg2.read_unread _
    iexact H1
  iexists _; isplitr; swap; · iexact HS
  ipureintro
  rw [View.readAt_full, View.readAt_full, hf0, hf1, View.read_writes_cons_put _ _ _ _ _ (hoff1 t), View.writes_nil, hfs]

set_option maxHeartbeats 1000000 in
/-- The body at the last point: the last block of scores is stored and the indices are formed from all of them. -/
theorem run_B (h1 : cond1 (grid0.coords t))
    (x0 : Vec F S64x23040 .f32) (x1 : Vec F S128x23040 .f32) (x2 : Vec F S64x128 .i32) (xs : Vec F S64x1024 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xs
        ∗ (iprop(owns (c : Thread nD τ) arg1 fullShare x0 ∗ owns (c : Thread nD τ) arg2 fullShare x1
            ∗ owns (c : Thread nD τ) arg3 fullShare (picked (put xs t.val (k0_pay1 x1 x0)))
            ∗ owns (c : Thread nD τ) arg4 fullShare (put xs t.val (k0_pay1 x1 x0))) -∗ K ⟨⟩))
      ⊢ wp frame (wpE (defs₀ (F := F)) Variants.none c none) E (cc0__sims_body (grid0.coords t) arg1 harg1 arg2 harg2 arg3 harg3 arg4 harg4) K := by
  simp only [cc0__sims_body_eq_skeleton]; unfold cc0__sims_body_skel
  simp only [k0_part1_eq_skeleton]; unfold k0_part1_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1; obtain rfl := harg4.eq_unread hfs
  sl_exec (disch := first | sl_exact h1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    unfold run_B.sl.HS_1
    rw [View.read_writes_full, View.readAt_full, View.readAt_full, View.readAt_full, hf0, hf1, View.read_writes_cons_put _ _ _ _ _ (hoff1 t), View.writes_nil, hfs]
    rfl
  iexists _; isplitr; swap; · iexact HS
  ipureintro
  unfold run_B.sl.HS_1
  rw [View.readAt_full, View.readAt_full, hf0, hf1, View.read_writes_cons_put _ _ _ _ _ (hoff1 t), View.writes_nil, hfs]

end

variable (m : (ℓ : Loc nD τ sig) → Buf (Elt F) ℓ) (ρ : Dev nD → PrngReg)

/-- The queries and the labels as the call finds them. -/
abbrev qv (c : Dev nD) : Vec F S64x23040 .f32 := V m c main_arg0
abbrev kv (c : Dev nD) : Vec F S1024x23040 .f32 := V m c main_arg1

theorem hindex : ∀ t : Fin cfg0.N, win0_0.index t = ![0, 0] ∧ win0_1.index t = ![t.val % 8, 0] :=
  (by decide +kernel : ∀ t : Fin grid0.N, win0_0.index t = ![0, 0] ∧ win0_1.index t = ![t.val % 8, 0])

theorem iblk_q (c : Dev nD) (t : Fin cfg0.N) : iblk m c 0 t = qv m c := by
  funext j
  blk_ext [iblk, V, hindex t]

theorem iblk_k (c : Dev nD) (t : Fin cfg0.N) : iblk m c 1 t = chunk (kv m c) t.val := by
  funext j
  unfold chunk
  blk_ext [iblk, V, hindex t]

/-- What the scratch holds before point `n`: the columns of scores stored so far. -/
def Held (q : Vec F S64x23040 .f32) (k : Vec F S1024x23040 .f32) (n : ℕ) (s : Vec F S64x1024 .f32) : Prop :=
  ∀ j, (j 1 : ℕ) < 128 * n → s j = scores q k j

theorem put_scores (q : Vec F S64x23040 .f32) (k : Vec F S1024x23040 .f32) (n : ℕ) (hn : n < 8) (s : Vec F S64x1024 .f32)
    (h : ∀ j, (j 1 : ℕ) < 128 * n → s j = scores q k j) :
    ∀ j, (j 1 : ℕ) < 128 * (n + 1) → put s n (k0_pay1 (chunk k n) q) j = scores q k j := by
  intro j hj
  have h0 : (j 0).val < 64 := (j 0).isLt
  by_cases hin : 128 * n ≤ (j 1 : ℕ)
  · have e : (j 1 : ℕ) / 128 = n := by omega
    have hall : ∀ a, (![0, n % 8 * 128] : Fin 2 → ℕ) a ≤ (j a).val ∧ (j a).val < (![0, n % 8 * 128] : Fin 2 → ℕ) a + S64x128.size a := by
      intro a
      match a with
      | ⟨0, _⟩ => exact ⟨Nat.zero_le _, by show (j 0).val < 0 + 64; omega⟩
      | ⟨1, _⟩ => exact ⟨by show n % 8 * 128 ≤ (j 1).val; omega, by show (j 1).val < n % 8 * 128 + 128; omega⟩
    unfold put VecWindow.put
    rw [dif_pos hall]
    unfold scores
    rw [e]
    refine congrArg (k0_pay1 (chunk k n) q) (funext fun a => Fin.ext ?_)
    match a with
    | ⟨0, _⟩ => rfl
    | ⟨1, _⟩ => show (j 1).val - n % 8 * 128 = (j 1).val % 128; omega
  · have hall : ¬∀ a, (![0, n % 8 * 128] : Fin 2 → ℕ) a ≤ (j a).val ∧ (j a).val < (![0, n % 8 * 128] : Fin 2 → ℕ) a + S64x128.size a := by
      intro hall
      have := (hall 1).1
      change n % 8 * 128 ≤ (j 1).val at this
      omega
    unfold put VecWindow.put
    rw [dif_neg hall]
    exact h j (by omega)

/-- The proof data of the call: the result's buffer holds the indices, the invariant the scratch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => picked (scores (qv m c) (kv m c))
  Φ t := iprop((∃ s, ⌜Held (qv m c) (kv m c) t.val s⌝ ∗ owns (c : Thread nD τ) (Memref.whole cc0_scratch0) fullShare s) ∗ (∃ r, prngReg c r))
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = picked (scores (qv m c) (kv m c)) := by dsimp only [dats]

theorem before0_0 (c : Dev nD) (t : Fin cfg0.N) (d) : (dats m 0 c).before 0 t d = qv m c :=
  (before0_0_of m (dats m 0 c) (A_eq m c 0) (after0_0 m c) t d).trans (iblk_q m c t)
theorem before0_1 (c : Dev nD) (t : Fin cfg0.N) (d) : (dats m 0 c).before 1 t d = chunk (kv m c) t.val :=
  (before0_1_of m (dats m 0 c) (A_eq m c 1) (after0_1 m c) t d).trans (iblk_k m c t)

theorem Phi_in (c : Dev nD) : (Pipeline.ΦA spec0 c : sProp 𝕄) ⊢ (dats m 0 c).Φ 0 := by
  unfold Pipeline.ΦA; rw [scopedRest0_eq]
  dsimp only [dats]
  iintro ⟨⟨%s, HS⟩, Hr⟩
  isplitl [HS]
  · iexists s
    isplitr
    · ipureintro; exact fun j hj => absurd hj (by simp)
    rw [owns_whole]
    iexact HS
  iexact Hr

theorem Phi_out (c : Dev nD) : (dats m 0 c).Φ (Fin.last cfg0.N) ⊢ (Pipeline.ΦA spec0 c : sProp 𝕄) := by
  unfold Pipeline.ΦA; rw [scopedRest0_eq]
  dsimp only [dats]
  simp only [owns_whole]
  iintro ⟨⟨%s, -, HS⟩, Hr⟩
  isplitl [HS]
  · iexists s; iexact HS
  iexact Hr

/-! ## The body at each point -/

abbrev ms0_0 (t : Fin cfg0.N) : Memref sig .tc .vmem S64x23040 .f32 := win0_0.stage (cfg0.slots t 0)
abbrev ms0_1 (t : Fin cfg0.N) : Memref sig .tc .vmem S128x23040 .f32 := win0_1.stage (cfg0.slots t 1)
abbrev ms0_2 (t : Fin cfg0.N) : Memref sig .tc .vmem S64x128 .i32 := win0_2.stage (cfg0.slots t 2)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves_q (c : Dev nD) (t : Fin cfg0.N) : (dats m 0 c).leavesExact 0 t = owns (c : Thread nD τ) (ms0_0 t) fullShare (qv m c) := by
  rw [← iblk_q m c t, ← after0_0 m c t]
theorem leaves_k (c : Dev nD) (t : Fin cfg0.N) : (dats m 0 c).leavesExact 1 t = owns (c : Thread nD τ) (ms0_1 t) fullShare (chunk (kv m c) t.val) := by
  rw [← iblk_k m c t, ← after0_1 m c t]
theorem leaves_o (c : Dev nD) (t : Fin cfg0.N) (h : 7 ≤ t.val) :
    (dats m 0 c).leavesExact 2 t = owns (c : Thread nD τ) (ms0_2 t) fullShare (picked (scores (qv m c) (kv m c))) := by
  rw [← after0_2 m c t]; unfold Dat.leavesExact; rw [hidle2, decide_eq_false (by omega)]
theorem leaves_idle (c : Dev nD) (t : Fin cfg0.N) (h : t.val < 7) :
    (dats m 0 c).leavesExact 2 t = iprop(∃ d, owns (c : Thread nD τ) (ms0_2 t) fullShare ((dats m 0 c).before 2 t d)) := by
  unfold Dat.leavesExact; rw [hidle2, decide_eq_true h]
  have : (cfg0.win 2).flush t = false := by
    rw [← Bool.not_eq_true, flush0_2]; omega
  rw [this]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl, leaves_q, leaves_k]
  have hN : t.val < 8 := lt_of_lt_of_eq t.isLt (show cfg0.N = 8 from N_0)
  rw [show (dats m 0 c).Φ t.castSucc = iprop((∃ s, ⌜Held (qv m c) (kv m c) t.val s⌝ ∗ owns (c : Thread nD τ) (Memref.whole cc0_scratch0) fullShare s) ∗ (∃ r, prngReg c r)) from rfl,
    show (dats m 0 c).Φ t.succ = iprop((∃ s, ⌜Held (qv m c) (kv m c) (t.val + 1) s⌝ ∗ owns (c : Thread nD τ) (Memref.whole cc0_scratch0) fullShare s) ∗ (∃ r, prngReg c r)) from rfl]
  rcases Nat.lt_or_ge t.val 7 with h | h
  · rw [leaves_idle m c t h]
    iintro ⟨⟨⟨%s, %hs, HS⟩, Hg⟩, Ho, ⟨%d0, H0⟩, ⟨%d1, H1⟩, H2⟩
    iapply (run_A c t _ _ _ _ _ _ _ _ (fun hc => by have := (hcond1 t).mp hc; omega) (qv m c) (chunk (kv m c) t.val) s Set.univ _)
    isplitl [H0]; · iexact H0
    isplitl [H1]; · iexact H1
    isplitl [HS]; · iexact HS
    iintro ⟨H0, H1, HS⟩
    isplitl [HS Hg]
    · isplitr [Hg]
      · iexists _
        isplitr; swap
        · iexact HS
        ipureintro
        exact put_scores _ _ _ hN _ hs
      iexact Hg
    isplitl [Ho]; · iexact Ho
    isplitl [H0]; · iexact H0
    isplitl [H1]; · iexact H1
    iexact H2
  · rw [leaves_o m c t h]
    iintro ⟨⟨⟨%s, %hs, HS⟩, Hg⟩, Ho, ⟨%d0, H0⟩, ⟨%d1, H1⟩, ⟨%d2, H2⟩⟩
    iapply (run_B c t _ _ _ _ _ _ _ _ ((hcond1 t).mpr (by omega)) (qv m c) (chunk (kv m c) t.val) _ s Set.univ _)
    isplitl [H0]; · iexact H0
    isplitl [H1]; · iexact H1
    isplitl [H2]; · iexact H2
    isplitl [HS]; · iexact HS
    iintro ⟨H0, H1, H2, HS⟩
    have hput := put_scores _ _ _ hN _ hs
    have hall : put s t.val (k0_pay1 (chunk (kv m c) t.val) (qv m c)) = scores (qv m c) (kv m c) := funext fun j => hput j (by
      have : (j 1).val < 1024 := (j 1).isLt
      omega)
    isplitl [HS Hg]
    · isplitr [Hg]
      · iexists _
        isplitr; swap
        · iexact HS
        ipureintro
        exact hput
      iexact Hg
    isplitl [Ho]; · iexact Ho
    isplitl [H0]; · iexact H0
    isplitl [H1]; · iexact H1
    rw [hall]
    iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := Phi_in m) (hout := Phi_out m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

/-- The call's result array: the indices. -/
theorem final (c : Dev nD) : (dats m 0 c).arrAt 2 (cfgs 0).N = picked (scores (qv m c) (kv m c)) := by
  refine (dats m 0 c).arrAt_eq_of_after_last 2 t0_7 (by decide +kernel) _ fun j => ?_
  blk_simp
  rw [after0_2]

/-- The program's result: the first three columns of the call's. -/
def result (c : Dev nD) : Vec F S64x3 .i32 := fun j => picked (scores (qv m c) (kv m c)) (ix2 (j 0) (⟨(j 1 : ℕ), by have := (j 1).isLt; change (j 1 : ℕ) < 3 at this; omega⟩ : Fin 128))

theorem tail (c : Dev nD) : Pipeline.afterTail₀ cfgs (dats m) 0 (V0 m) [hostOps1] c main_v1 = result m c := by
  unfold Pipeline.afterTail₀
  rw [show List.flatten [hostOps1 (F := F)] = hostOps1 from rfl, StableHlo.after_cons, StableHlo.after_nil, StableHlo.unary_result']
  have e := Pipeline.withArrays_arr (cfgs 0).spec winFacts0.arr_inj c (V0 m c) (fun w => (dats m 0 c).arrAt w (cfgs 0).N) 2
  rw [final] at e
  refine (congrArg (extractStridedSlice S64x3 ![0, 0] · slices_S64x128_S64x3_0_0) e).trans (funext fun j => ?_)
  unfold extractStridedSlice result
  refine congrArg (picked (scores (qv m c) (kv m c))) (funext fun a => Fin.ext ?_)
  match a with
  | ⟨0, _⟩ => show 0 + (j 0).val = (j 0).val; omega
  | ⟨1, _⟩ => show 0 + (j 1).val = (j 1).val; omega

/-- The program runs to its end with the three columns of indices as its result and its arguments unchanged. -/
theorem result_run : θ_run defs (onTc (τ := τ) (main (F := F))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).2 main_v1 (by decide)).trans (tail m c), h.2 c⟩)
    (θ_run_and (run_main m ρ) (frame_of m ρ (dats m) (A_eq m) (run_main m ρ)))

end Cert.RankIdeal.Body

end
-- ==== Proof.Top3.lean ====
/- Three rounds of "the greatest entry, the first of equals, then masked" give the first three positions of a stable
   sort from the greatest down; and the bound on cosine similarities that keeps the mask below every score. -/
module

public import Idealize.ShloMosaic.PureOps.Ideal
public import Idealize.ShloMosaic.PureOps.Reduce
public import Idealize.ShloMosaic.Lib.Pointwise
public import Idealize.ShloMosaic.Lib.SortPrefix
public import Idealize.ShloMosaic.Lib.WordArith

@[expose] public section

noncomputable section

namespace Top3

open Idealize.ShloMosaic

variable {N : ℕ}

/-- Position `i` holds the greatest entry and is the first that does. -/
def First (x : Fin N → EReal) (i : Fin N) : Prop := (∀ j, x j ≤ x i) ∧ ∀ j, x j = x i → i ≤ j

theorem exists_first (hN : 0 < N) (x : Fin N → EReal) : ∃ i, First x i := by
  have : Nonempty (Fin N) := ⟨⟨0, hN⟩⟩
  obtain ⟨m, -, hm⟩ := Finset.exists_max_image Finset.univ x Finset.univ_nonempty
  obtain ⟨i, hi, hmin⟩ := Finset.exists_min_image (Finset.univ.filter fun j => x j = x m) id ⟨m, by simp⟩
  have e : x i = x m := (Finset.mem_filter.mp hi).2
  exact ⟨i, fun j => e ▸ hm j (Finset.mem_univ j), fun j hj => hmin j (by simp [hj, e])⟩

theorem First.max {x : Fin N → EReal} {i : Fin N} (h : First x i) : Finset.fold max ⊥ x Finset.univ = x i := by
  refine le_antisymm (Finset.fold_max_le _ |>.mpr ⟨bot_le, fun j _ => h.1 j⟩) ?_
  exact (Finset.le_fold_max _).mpr (Or.inr ⟨i, Finset.mem_univ i, le_rfl⟩)

/-- A signed minimum over a family is the member that is at most each. -/
theorem fold_minsi {ι : Type} [DecidableEq ι] (c v : BitVec 32) (f : ι → BitVec 32) (hc : IntOp.minsi v c = v)
    (hf : ∀ j, IntOp.minsi v (f j) = v) (i : ι) (hi : f i = v) (s : Finset ι) :
    IntOp.minsi v (Finset.fold IntOp.minsi c f s) = v ∧ (i ∈ s → Finset.fold IntOp.minsi c f s = v) := by
  induction s using Finset.induction_on with
  | empty => exact ⟨hc, fun h => absurd h (Finset.notMem_empty i)⟩
  | insert a s ha ih =>
    rw [Finset.fold_insert ha]
    refine ⟨by rw [← Std.Associative.assoc (op := IntOp.minsi (w := 32)), hf, ih.1], fun h => ?_⟩
    rcases Finset.mem_insert.mp h with rfl | h
    · rw [hi, ih.1]
    · rw [ih.2 h, Std.Commutative.comm (op := IntOp.minsi (w := 32)), hf]

theorem minsi_ofNat {i j : ℕ} (h : i ≤ j) (hj : j < 2 ^ 31) : IntOp.minsi (BitVec.ofNat 32 i) (BitVec.ofNat 32 j) = BitVec.ofNat 32 i := by
  apply BitVec.eq_of_toNat_eq
  have e (n : ℕ) (hn : n < 2 ^ 31) : (BitVec.ofNat 32 n).toNat = n := by rw [BitVec.toNat_ofNat]; exact Nat.mod_eq_of_lt (by omega)
  rw [WordArith.toNat_minsi_of_lt _ _ (by rw [e i (by omega)]; omega) (by rw [e j hj]; omega), e i (by omega), e j hj]
  omega

/-- The least position among those that hold the greatest entry, as a word. -/
def word (x : Fin N → EReal) : BitVec 32 :=
  Finset.fold IntOp.minsi 2147483647#32 (fun j : Fin N => if x j = Finset.fold max ⊥ x Finset.univ then BitVec.ofNat 32 j.val else 1073741824#32) Finset.univ

theorem First.word_eq (hN : N ≤ 2 ^ 30) {x : Fin N → EReal} {i : Fin N} (h : First x i) : word x = BitVec.ofNat 32 i.val := by
  unfold word
  rw [h.max]
  have hi := i.isLt
  refine (fold_minsi _ _ _ (minsi_ofNat (j := 2147483647) (by omega) (by omega)) (fun j => ?_) i (if_pos rfl) Finset.univ).2 (Finset.mem_univ i)
  have hj := j.isLt
  split
  · next e => exact minsi_ofNat (h.2 j e) (by omega)
  · exact minsi_ofNat (j := 1073741824) (by omega) (by omega)

/-- One entry replaced. -/
def mask (f : EReal) (x : Fin N → EReal) (i : Fin N) : Fin N → EReal := fun j => if j = i then f else x j

/-- Selecting by equality of two positions' words. -/
theorem select_eq {α : Type} (hN : N ≤ 2 ^ 30) (i j : Fin N) (u v : α) :
    Scalar.select (IntOp.cmpi .eq (BitVec.ofNat 32 j.val) (BitVec.ofNat 32 i.val)) u v = if j = i then u else v := by
  have hi := i.isLt
  have hj := j.isLt
  have e : (BitVec.ofNat 32 j.val = BitVec.ofNat 32 i.val) ↔ j = i := by
    constructor
    · intro h
      have := congrArg BitVec.toNat h
      rw [BitVec.toNat_ofNat, BitVec.toNat_ofNat, Nat.mod_eq_of_lt (by omega), Nat.mod_eq_of_lt (by omega)] at this
      exact Fin.ext this
    · rintro rfl; rfl
  unfold Scalar.select IntOp.cmpi
  by_cases h : j = i
  · subst h; simp
  · have hne : (BitVec.ofNat 32 j.val == BitVec.ofNat 32 i.val) = false := beq_eq_false_iff_ne.mpr fun h' => h (e.mp h')
    simp [h, hne]

/-! ## The sort -/

/-- "Sorts first": greater, or equal and at the lower position. -/
def before (x : Fin N → EReal) (k k' : Fin N) : Bool := decide (x k' < x k) || (decide (x k = x k') && decide (k < k'))

theorem strict (x : Fin N → EReal) : StrictTotalBefore (before x) :=
  StrictTotalBefore.of_key_then_position (fun a b : EReal => decide (b < a)) x (fun a => by simp)
    (fun a b c h h' => by simp only [decide_eq_true_eq] at h h' ⊢; exact lt_trans h' h)
    (fun a b => by
      simp only [decide_eq_true_eq]
      rcases lt_trichotomy a b with h | h | h
      · exact Or.inr (Or.inr h)
      · exact Or.inr (Or.inl h)
      · exact Or.inl h)

/-- The stable sort never asks about an element and an earlier one, so the positions need not be compared. -/
theorem insertBefore_lex (x : Fin N → EReal) (a : Fin N) (l : List (Fin N)) (h : ∀ b ∈ l, a < b) :
    insertBefore (fun k k' => decide (x k' < x k)) a l = insertBefore (before x) a l := by
  induction l with
  | nil => rfl
  | cons b l ih =>
    have hb : ¬b < a := not_lt.mpr (h b List.mem_cons_self).le
    have e : before x b a = decide (x a < x b) := by simp [before, hb]
    unfold insertBefore
    rw [ih fun b' hb' => h b' (List.mem_cons_of_mem _ hb'), e]

theorem stableSort_lex (x : Fin N → EReal) (l : List (Fin N)) (h : l.Pairwise (· < ·)) :
    stableSort (fun k k' => decide (x k' < x k)) l = stableSort (before x) l := by
  induction l with
  | nil => rfl
  | cons a l ih =>
    obtain ⟨ha, hl⟩ := List.pairwise_cons.mp h
    unfold stableSort
    rw [ih hl, insertBefore_lex x a _ fun b hb => ha b ((perm_stableSort _ l).mem_iff.mp hb)]

theorem sortedFrom_lex (x : Fin N → EReal) (k : Fin N) :
    sortedFrom (fun k k' => decide (x k' < x k)) k = sortedFrom (before x) k := by
  have h := stableSort_lex x (List.finRange N) (List.pairwise_lt_finRange N)
  simp only [sortedFrom, sortPositions, List.get_eq_getElem, h]
  rfl

theorem First.not_before {x : Fin N → EReal} {i : Fin N} (h : First x i) (j : Fin N) : before x j i = false := by
  have h1 := h.1 j
  have h2 := h.2 j
  simp only [before, Bool.or_eq_false_iff, Bool.and_eq_false_iff, decide_eq_false_iff_not]
  refine ⟨not_lt.mpr h1, ?_⟩
  by_cases e : x j = x i
  · exact Or.inr (not_lt.mpr (h2 e))
  · exact Or.inl e

theorem before_mask {f : EReal} {x : Fin N → EReal} {i j k : Fin N} (hj : j ≠ i) (hk : k ≠ i) :
    before (mask f x i) j k = before x j k := by
  simp only [before, mask, if_neg hj, if_neg hk]

/-- A first-greatest position of a masked family is not the masked one, when some other entry is above the mask. -/
theorem First.ne_masked {f : EReal} {x : Fin N → EReal} {i k j : Fin N} (h : First (mask f x i) k) (hj : j ≠ i) (hx : f < x j) : k ≠ i := by
  rintro rfl
  have := h.1 j
  simp only [mask, if_neg hj, if_true] at this
  exact absurd this (not_le.mpr hx)

/-- THE THREE ROUNDS ARE THE SORT'S FIRST THREE. -/
theorem rounds {f : EReal} {x : Fin N → EReal} (hN : 3 ≤ N) (hx : ∀ j, f < x j) {i0 i1 i2 : Fin N} (h0 : First x i0)
    (h1 : First (mask f x i0) i1) (h2 : First (mask f (mask f x i0) i1) i2) (r : Fin 3) :
    sortedFrom (fun k k' => decide (x k' < x k)) (r.castLE hN) = (![i0, i1, i2] : Fin 3 → Fin N) r := by
  have other : ∀ a b : Fin N, ∃ j, j ≠ a ∧ j ≠ b := fun a b => by
    have hc : ({a, b} : Finset (Fin N)).card < (Finset.univ : Finset (Fin N)).card := by
      rw [Finset.card_univ, Fintype.card_fin]
      exact lt_of_le_of_lt Finset.card_le_two (by omega)
    obtain ⟨j, -, hj⟩ := Finset.exists_mem_notMem_of_card_lt_card hc
    simp only [Finset.mem_insert, Finset.mem_singleton, not_or] at hj
    exact ⟨j, hj⟩
  have n10 : i1 ≠ i0 := by
    obtain ⟨j, hj, -⟩ := other i0 i0
    exact h1.ne_masked hj (hx j)
  obtain ⟨j, hj0, hj1⟩ := other i0 i1
  have n21 : i2 ≠ i1 := h2.ne_masked hj1 (by simp only [mask, if_neg hj0]; exact hx j)
  have n20 : i2 ≠ i0 := by
    rintro rfl
    have := h2.1 j
    simp only [mask, if_neg hj0, if_neg hj1, if_neg n21, if_true] at this
    exact absurd this (not_le.mpr (hx j))
  have d0 : ∀ p, before x p i0 = false := h0.not_before
  have d1 : ∀ p, p ≠ i0 → before x p i1 = false := fun p hp => (before_mask hp n10).symm.trans (h1.not_before p)
  have d2 : ∀ p, p ≠ i0 → p ≠ i1 → before x p i2 = false := fun p hp hp' =>
    (before_mask hp n20).symm.trans ((before_mask hp' n21).symm.trans (h2.not_before p))
  rw [sortedFrom_lex]
  refine (strict x).sortedFrom_eq_of_prefix hN ![i0, i1, i2] ?_ ?_ ?_ r
  · intro a b hab
    fin_cases a <;> fin_cases b <;> first | rfl | (exfalso; simp at hab; first | exact n10 hab | exact n20 hab | exact n21 hab | exact n10 hab.symm | exact n20 hab.symm | exact n21 hab.symm)
  · intro a b hab
    fin_cases a <;> fin_cases b <;> first | exact absurd hab (by decide) | exact d0 _ | exact d1 _ n20
  · intro a p hp
    have hp0 : p ≠ i0 := (hp 0).symm
    have hp1 : p ≠ i1 := (hp 1).symm
    fin_cases a
    · exact d0 p
    · exact d1 p hp0
    · exact d2 p hp0 hp1

/-- The positions that a stable top-k along the rows of a matrix returns, by the extended reals' order. -/
theorem topK_at {A N K : ℕ} (hK : K ≤ N) (x : FVec Ideal ⟨2, ![A, N]⟩ .f32)
    (h : (⟨2, ![A, N]⟩ : Shape).Slices (fun _ => 0) ⟨2, ![A, K]⟩) (a : Fin A) (r : Fin K) :
    (Host.topK ⟨2, ![A, K]⟩ 1 (FloatOps.cmpfTotal (F := Ideal) (φ := .f32) .gt) x h).2 (ix2 a r)
      = BitVec.ofNat 32 (sortedFrom (fun n n' => decide (x (ix2 a n') < x (ix2 a n))) (r.castLE hK)).val := by
  have cmp : ∀ u v : EReal, (FloatOps.cmpfTotal (F := Ideal) (φ := .f32) .gt u v == 1#1) = decide (v < u) := fun u v => by
    show (BitVec.ofBool (decide (v < u)) == 1#1) = decide (v < u)
    cases decide (v < u) <;> rfl
  have key : ∀ (j : (⟨2, ![A, N]⟩ : Shape).Idx) (p : Fin N), (∀ n : Fin N, j.along 1 n = ix2 a n) → j 1 = p →
      BitVec.ofNat 32 ((j.along 1 (sortedFrom (n := N) (fun n n' =>
          FloatOps.cmpfTotal (F := Ideal) (φ := .f32) .gt (x (j.along 1 n)) (x (j.along 1 n')) == 1#1) (j 1))) 1).val
        = BitVec.ofNat 32 (sortedFrom (fun n n' => decide (x (ix2 a n') < x (ix2 a n))) p).val := by
    intro j p al hp
    rw [al]
    simp only [al, cmp]
    rw [hp]
    try rfl
  have hr := r.isLt
  have h1 : 1 < (⟨2, ![A, N]⟩ : Shape).rank := Nat.one_lt_two
  simp only [Host.topK, Host.sort2, extractStridedSlice, iotaInDim, dif_pos h1]
  refine key _ _ (fun n => ?_) ?_
  · funext d
    match d with
    | ⟨0, _⟩ => exact Fin.ext (Nat.zero_add _)
    | ⟨1, _⟩ => rfl
  · exact Fin.ext (Nat.zero_add _)

/-! ## The similarities -/

/-- An entry divided by the greater of its row's norm and a positive constant is a real of absolute value at most one. -/
theorem unit {D : ℕ} (v : Fin D → EReal) {e : ℝ} (he : 0 < e) (d : Fin D) :
    ∃ r : ℝ, |r| ≤ 1 ∧ Ideal.div (v d) (max (Ideal.sqrt (∑ x, v x * v x)) (e : EReal)) = (r : EReal) := by
  have hsq : ∀ x, 0 ≤ v x * v x := fun x => by
    rcases le_total 0 (v x) with h | h
    · exact mul_nonneg h h
    · rw [← neg_mul_neg]; exact mul_nonneg (EReal.neg_nonneg.mpr h) (EReal.neg_nonneg.mpr h)
  have hle : v d * v d ≤ ∑ x, v x * v x := Finset.single_le_sum (f := fun x => v x * v x) (fun x _ => hsq x) (Finset.mem_univ d)
  have h0 := hsq d
  generalize hS : (∑ x, v x * v x) = S at hle ⊢
  generalize v d = w at hle h0 ⊢
  induction S with
  | bot => exact absurd (h0.trans hle) (not_le.mpr EReal.bot_lt_zero)
  | top =>
    refine ⟨0, by simp, ?_⟩
    rw [Ideal.sqrt_top, max_eq_left le_top]
    simp [Ideal.div]
  | coe s =>
    induction w with
    | bot => simp at hle
    | top => simp at hle
    | coe w =>
      rw [← EReal.coe_mul, EReal.coe_le_coe_iff] at hle
      have hs : 0 ≤ s := le_trans (mul_self_nonneg w) hle
      rw [Ideal.sqrt_coe, if_neg (not_lt.mpr hs), ← EReal.coe_strictMono.monotone.map_max]
      have hm : 0 < max (Real.sqrt s) e := lt_max_of_lt_right he
      refine ⟨w / max (Real.sqrt s) e, ?_, ?_⟩
      · rw [abs_div, abs_of_pos hm, div_le_one hm]
        exact le_trans (Real.abs_le_sqrt (by rw [pow_two]; exact hle)) (le_max_left _ _)
      · rw [Ideal.div_coe hm.ne']
        rw [← EReal.coe_mul]
        congr 1
        field_simp

/-- A sum of products of reals of absolute value at most one is at least minus their number. -/
theorem sum_ge {D : ℕ} (u v : Fin D → EReal) (hu : ∀ d, ∃ r : ℝ, |r| ≤ 1 ∧ u d = (r : EReal)) (hv : ∀ d, ∃ r : ℝ, |r| ≤ 1 ∧ v d = (r : EReal)) :
    ((-(D : ℝ) : ℝ) : EReal) ≤ ∑ d, u d * v d := by
  choose a ha ea using hu
  choose b hb eb using hv
  have e : ∑ d, u d * v d = ((∑ d, a d * b d : ℝ) : EReal) := by
    simp only [ea, eb, ← EReal.coe_mul]
    induction (Finset.univ : Finset (Fin D)) using Finset.induction_on with
    | empty => simp
    | insert x s hx ih => rw [Finset.sum_insert hx, Finset.sum_insert hx, ih, EReal.coe_add]
  rw [e, EReal.coe_le_coe_iff]
  have h : ∀ d ∈ Finset.univ, (-1 : ℝ) ≤ a d * b d := fun d _ => by
    have : |a d * b d| ≤ 1 := by
      rw [abs_mul]
      exact mul_le_one₀ (ha d) (abs_nonneg _) (hb d)
    exact (abs_le.mp this).1
  have := Finset.card_nsmul_le_sum Finset.univ (fun d => a d * b d) (-1) h
  simpa using this

/-- The cosine similarity of two rows, each norm kept above `e`. -/
def sim {D : ℕ} (e : EReal) (q l : Fin D → EReal) : EReal :=
  ∑ x, Ideal.div (q x) (max (Ideal.sqrt (∑ x, q x * q x)) e) * Ideal.div (l x) (max (Ideal.sqrt (∑ x, l x * l x)) e)

theorem ofBits_tiny : ∃ r : ℝ, 0 < r ∧ Ideal.ofBits .f32 0x322BCC77#32 = (r : EReal) := by
  refine ⟨_, ?_, by simp [Ideal.ofBits, Ideal.ieee, -EReal.coe_mul]; rfl⟩
  norm_num

theorem ofBits_floor : Ideal.ofBits .f32 0xFF7FFFFF#32 < ((-(23040 : ℕ) : ℝ) : EReal) := by
  simp only [Ideal.ofBits, Ideal.ieee]
  simp [-EReal.coe_mul, -EReal.coe_neg]
  norm_num

theorem floor_lt_sim (q l : Fin 23040 → EReal) : Ideal.ofBits .f32 0xFF7FFFFF#32 < sim (Ideal.ofBits .f32 0x322BCC77#32) q l := by
  obtain ⟨e, he, hb⟩ := ofBits_tiny
  rw [hb]
  exact lt_of_lt_of_le ofBits_floor (sum_ge _ _ (unit q he) (unit l he))

end Top3

end
-- ==== Proof.RankValue.lean ====
/- What the ranking program and its reference leave as their results at the extended reals: the positions of the three
   greatest cosine similarities of each row. -/
module

public import proofs.«01_k».proof.Proof.RankBody
public import proofs.«01_k».proof.Proof.Gen.RankRefIdeal
public import proofs.«01_k».proof.Proof.Formula
public import proofs.«01_k».proof.Proof.Top3
public import Idealize.ShloMosaic.Lib.StableHlo.RunRead

@[expose] public section

set_option maxRecDepth 16384

noncomputable section

/-! ## The kernel -/

namespace Cert.RankIdeal.Body

open Cert.RankIdeal Cert.RankIdeal.Gen
open Idealize.ShloMosaic Idealize.ShloMosaic.TcCoe Idealize.ShloMosaic.Tactic

/-- The value that replaces a position already taken. -/
abbrev floor : EReal := Ideal.ofBits .f32 0xFF7FFFFF#32

/-- A row of a score matrix. -/
abbrev row (s : FVec Ideal S64x1024 .f32) (a : Fin 64) : Fin 1024 → EReal := fun n => s (ix2 a n)

theorem scores_at (q : FVec Ideal S64x23040 .f32) (k : FVec Ideal S1024x23040 .f32) (a : Fin 64) (b : Fin 1024) :
    scores (F := Ideal) q k (ix2 a b) = Top3.sim (Ideal.ofBits .f32 0x322BCC77#32) (fun d => q (ix2 a d)) (fun d => k (ix2 b d)) := by
  unfold scores Top3.sim
  have hb := b.isLt
  have e : (b : ℕ) / 128 % 8 * 128 + (b : ℕ) % 128 = b := by omega
  pointwise [k0_pay1, chunk]
  simp only [e]

theorem pay3_at (s : FVec Ideal S64x1024 .f32) (a : Fin 64) (u : Fin 1) :
    k0_pay3 (F := Ideal) s (ix2 a u) = Top3.word (row s a) := by
  unfold Top3.word
  pointwise [k0_pay3, Formula.ofBits_neg_inf]

section
variable (s : FVec Ideal S64x1024 .f32) (a : Fin 64) {i0 i1 i2 : Fin 1024} (h0 : Top3.First (row s a) i0)
  (h1 : Top3.First (Top3.mask floor (row s a) i0) i1) (h2 : Top3.First (Top3.mask floor (Top3.mask floor (row s a) i0) i1) i2)
include h0

theorem pay4_row : row (k0_pay4 (F := Ideal) s) a = Top3.mask floor (row s a) i0 := by
  funext b
  unfold Top3.mask
  pointwise [k0_pay4, pay3_at, h0.word_eq (by decide)]
  exact Top3.select_eq (by decide) _ _ _ _

include h1

theorem pay5_at (u : Fin 1) : k0_pay5 (F := Ideal) s (ix2 a u) = BitVec.ofNat 32 i1.val := by
  rw [← h1.word_eq (by decide), ← pay4_row s a h0]
  unfold Top3.word
  pointwise [k0_pay5, Formula.ofBits_neg_inf]

include h2

theorem pay7_at : Finset.fold IntOp.minsi 2147483647#32 (fun b : Fin 1024 => k0_pay7 (F := Ideal) s (ix2 a b)) Finset.univ = BitVec.ofNat 32 i2.val := by
  rw [← h2.word_eq (by decide), ← pay4_row s a h0]
  unfold Top3.word Top3.mask
  pointwise [k0_pay7, Formula.ofBits_neg_inf, pay5_at s a h0 h1]
  simp only [Top3.select_eq (N := 1024) (by decide)]

theorem picked_at (r : Fin 3) : picked (F := Ideal) s (ix2 a (⟨r.val, by omega⟩ : Fin 128)) = BitVec.ofNat 32 ((![i0, i1, i2] : Fin 3 → Fin 1024) r).val := by
  pointwise [picked, k0_pay2, k0_pay6, pay3_at, h0.word_eq (by decide), pay5_at s a h0 h1, pay7_at s a h0 h1 h2]
  fin_cases r <;> rfl

end

/-- A row's first three positions from the greatest similarity down, at the lower position among equals. -/
theorem picked_sorted (q : FVec Ideal S64x23040 .f32) (k : FVec Ideal S1024x23040 .f32) (a : Fin 64) (r : Fin 3) (x : Fin 1024 → EReal)
    (hx : ∀ n, x n = Top3.sim (Ideal.ofBits .f32 0x322BCC77#32) (fun d => q (ix2 a d)) (fun d => k (ix2 n d))) :
    picked (F := Ideal) (scores q k) (ix2 a (⟨r.val, by omega⟩ : Fin 128))
      = BitVec.ofNat 32 (sortedFrom (fun n n' => decide (x n' < x n)) (r.castLE (by decide : 3 ≤ 1024))).val := by
  have e : x = row (scores (F := Ideal) q k) a := funext fun n => (hx n).trans (show row (scores (F := Ideal) q k) a n = _ from scores_at q k a n).symm
  obtain ⟨i0, h0⟩ := Top3.exists_first (by decide) (row (scores (F := Ideal) q k) a)
  obtain ⟨i1, h1⟩ := Top3.exists_first (by decide) (Top3.mask floor (row (scores (F := Ideal) q k) a) i0)
  obtain ⟨i2, h2⟩ := Top3.exists_first (by decide) (Top3.mask floor (Top3.mask floor (row (scores (F := Ideal) q k) a) i0) i1)
  rw [picked_at _ a h0 h1 h2 r, e, Top3.rounds (f := floor) (by decide) (fun n => ?_) h0 h1 h2 r]
  rw [← e, hx]
  exact Top3.floor_lt_sim _ _

end Cert.RankIdeal.Body

/-! ## The reference -/

namespace Cert.RankRefIdeal.Value

open Cert.RankRefIdeal Cert.RankRefIdeal.Gen
open Idealize.ShloMosaic Idealize.ShloMosaic.TcCoe Idealize.ShloMosaic.Tactic

theorem topK_at (x : FVec Ideal S64x1024 .f32) (a : Fin 64) (r : Fin 3) :
    (Host.topK S64x3 1 (FloatOps.cmpfTotal (F := Ideal) (φ := .f32) .gt) x sliceFits_S64x1024_S64x3).2 (ix2 a r)
      = BitVec.ofNat 32 (sortedFrom (fun n n' => decide (x (ix2 a n') < x (ix2 a n))) (r.castLE (by decide : 3 ≤ 1024))).val :=
  Top3.topK_at (A := 64) (N := 1024) (K := 3) (by decide) x sliceFits_S64x1024_S64x3 a r

variable (m : (ℓ : Loc nD τ sig) → Buf (Elt Ideal) ℓ) (g : Dev nD → PrngReg)

/-- The two arguments as launched. -/
abbrev qa (c : Dev nD) : FVec Ideal S64x23040 .f32 := m ((c.tc : Thread nD τ).loc main_arg0)
abbrev la (c : Dev nD) : FVec Ideal S1024x23040 .f32 := m ((c.tc : Thread nD τ).loc main_arg1)

/-- The reference's similarity matrix. -/
def sims (q : FVec Ideal S64x23040 .f32) (l : FVec Ideal S1024x23040 .f32) : FVec Ideal S64x1024 .f32 :=
  fun j => Top3.sim (Ideal.ofBits .f32 0x322BCC77#32) (fun d => q (ix2 (j 0) d)) (fun d => l (ix2 (j 1) d))

theorem run : θ_run (defs (F := Ideal)) (onTc (τ := τ) (main (F := Ideal))) ⟨m, fun _ => 0, g⟩ (fun r => ∀ c : Dev nD,
      r.2.mem ((c.tc : Thread nD τ).loc main_indices)
        = (Host.topK S64x3 1 (FloatOps.cmpfTotal (F := Ideal) (φ := .f32) .gt) (sims (qa m c) (la m c)) sliceFits_S64x1024_S64x3).2
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  refine congrArg (fun x : FVec Ideal S64x1024 .f32 => (Host.topK S64x3 1 (FloatOps.cmpfTotal (F := Ideal) (φ := .f32) .gt) x sliceFits_S64x1024_S64x3).2) ?_
  funext j
  idx_vars j
  unfold sims Top3.sim
  pointwise [StableHlo.TRef.ofBuf_toBuf, StableHlo.TRef.toBuf, StableHlo.TRef.ofBuf, cast_eq]

end Cert.RankRefIdeal.Value

end
-- ==== Proof.RankClaims.lean ====
/- The claims about the ranking. -/
module

public import proofs.«01_k».proof.Defs
public import proofs.«01_k».proof.Proof.RankValue
public import proofs.«01_k».proof.Proof.BitsRank
public import Idealize.ShloMosaic.Lib.Quiescent
public import Idealize.ShloMosaic.Adequacy
public import Idealize.ShloMosaic.Init

@[expose] public section

set_option maxRecDepth 16384

noncomputable section

namespace Cert.RankClaims

open Idealize.ShloMosaic Idealize.ShloMosaic.TcCoe Idealize.ShloMosaic.Tactic Idealize.SL.Sem Cert.Rank

theorem frame_p : Cert.quiescent_Rank := fun m g _ => Cert.Rank.Body.frame m g
theorem frame_pi : Cert.quiescent_RankIdeal := fun m g _ => Cert.RankIdeal.Body.frame m g
theorem frame_ri : Cert.quiescent_RankRefIdeal := fun m g _ =>
  (θ_run Cert.RankRefIdeal.defs _ _).mono (fun r h => ⟨fun c => (h c).2, sem_eq_zero_of_no_sems (by decide) r.2⟩)
    (Cert.RankRefIdeal.Value.run m g)

theorem preserves : Cert.preserves_Rank_RankIdeal := trivial

theorem algebraic : Cert.algebraic_RankIdeal_RankRefIdeal := by
  intro m g m' g' _ hagree
  refine ⟨_, Cert.RankIdeal.Body.result_run m g, ?_⟩
  refine (θ_run Cert.RankRefIdeal.defs _ _).mono (fun r h c => ⟨(h c).1.trans ?_, (h c).2⟩) (Cert.RankRefIdeal.Value.run m' g')
  obtain ⟨h0, h1⟩ := hagree c
  funext j
  idx_vars j
  refine (Cert.RankRefIdeal.Value.topK_at _ j0 j1).trans (Cert.RankIdeal.Body.picked_sorted (Cert.RankIdeal.Body.qv m c) (Cert.RankIdeal.Body.kv m c) j0 j1 _ fun n => ?_).symm
  have hq : Cert.RankRefIdeal.Value.qa m' c = Cert.RankIdeal.Body.qv m c := h0
  have hl : Cert.RankRefIdeal.Value.la m' c = Cert.RankIdeal.Body.kv m c := h1
  rw [hq, hl]
  rfl

end Cert.RankClaims

end
-- ==== Proof.PickBody.lean ====
/- The call that copies the selected label rows: its window reads the row that a word of the index table names, so under
   the precondition (every index names a row) each block of the result is that row. -/
module

public import proofs.«01_k».proof.Defs
public import proofs.«01_k».proof.Proof.Gen.PickIdeal.Frame
public import proofs.«01_k».proof.Proof.Gen.Pre_idx_names_labels
public import Idealize.ShloMosaic.Lib.Pipeline.ValueKit
public import Idealize.ShloMosaic.Lib.Pointwise
public import Idealize.ShloMosaic.Lib.StableHlo.Predicate

@[expose] public section

noncomputable section

namespace Cert.PickIdeal.Body

open Cert.PickIdeal Cert.PickIdeal.Gen
open Idealize.ShloMosaic Idealize.ShloMosaic.TcCoe Idealize.ShloMosaic.Tactic

variable {F : FTy → Type} [FloatOps F]

variable (m : (ℓ : Loc nD τ sig) → Buf (Elt F) ℓ) (ρ : Dev nD → PrngReg)

/-- The indices and the label rows as launched. -/
abbrev iv (c : Dev nD) : IVec S64x3 32 := m ((c : Thread nD τ).loc main_arg0)
abbrev lv (c : Dev nD) : Vec F S1024x23040 .f32 := m ((c : Thread nD τ).loc main_arg1)

/-- Entry `n` of the index array in row-major order. -/
def word (x : IVec S64x3 32) (n : ℕ) : BitVec 32 := x (ix2 (⟨n / 3 % 64, Nat.mod_lt _ (by decide)⟩ : Fin 64) (⟨n % 3, Nat.mod_lt _ (by decide)⟩ : Fin 3))

theorem tbl_at (y : S192.Idx) : tbl m 0 y = word (iv m 0) (y 0).val := by
  have h : tbl m 0 = shapeCast S192 (iv m 0) shapeCasts_S64x3_S192 := by
    show V m 0 main_v0 = _
    unfold V V0
    rfl
  rw [h]
  idx_vars y
  unfold word
  pointwise []
  exact congrArg (fun a => iv m 0 (ix2 a _)) (Fin.ext (by
    show y0.val / 3 = y0.val / 3 % 64
    omega))

theorem lab_at (c : Dev nD) (y : S1024x180x128.Idx) : V m c main_v1 y = lv m c (ix2 (y 0) (⟨(y 1).val * 128 + (y 2).val, by
    have h1 : (y 1).val < 180 := (y 1).isLt
    have h2 : (y 2).val < 128 := (y 2).isLt
    omega⟩ : Fin 23040)) := by
  have h : V m c main_v1 = shapeCast S1024x180x128 (lv m c) shapeCasts_S1024x23040_S1024x180x128 := by
    unfold V V0
    rfl
  rw [h]
  idx_vars y
  pointwise []

/-- Every entry of the index array names a row. -/
def Names (x : IVec S64x3 32) : Prop := ∀ j, (x j).toNat < 1024

theorem names_of_pre (x : IVec S64x3 32) (l : FVec F S1024x23040 .f32)
    (h : Cert.Pre_idx_names_labels.fn (F := F) x l = fun _ => 1#1) : Names x := by
  intro j
  have e := congrFun h j
  simp only [Cert.Pre_idx_names_labels.fn, andi, cmpi, broadcastInDim, constantI] at e
  generalize x j = w at e
  have andi_one : ∀ a b : BitVec 1, IntOp.andi a b = 1#1 → a = 1#1 ∧ b = 1#1 := by decide
  obtain ⟨hge, hlt⟩ := andi_one _ _ e
  simp only [IntOp.cmpi, StableHlo.Predicate.ofBool_eq_one_iff, BitVec.sle, BitVec.slt, decide_eq_true_eq, BitVec.toInt, BitVec.toNat_ofNat] at hge hlt
  omega

theorem index_at (i : grid0.Coords) :
    cc0_transform_0 k0_off1_inb numel1_S1 (tbl m) i = ![(word (iv m 0) (i 0).val).toNat, 0, 0] := by
  have hi : (i 0).val < 192 := (i 0).isLt
  unfold cc0_transform_0
  dsimp only
  have e : (tbl m).at 0 (Rect.unit (s := S192) ![(Scalar.indexCast (BitVec.ofNat 32 (i 0).val)).toNat] S1.size (k0_off1_inb i)) numel1_S1 = word (iv m 0) (i 0).val := by
    refine (tbl_at m _).trans (congrArg (word (iv m 0)) ?_)
    show (BitVec.ofNat 32 (i 0).val).toNat + 1 * 0 = _
    rw [BitVec.toNat_ofNat]
    omega
  rw [e]
  rfl

theorem ok_of_names (h : Names (iv m 0)) : Ok m := by
  intro i
  refine ⟨fun a => ?_, Or.inl rfl⟩
  rw [index_at]
  have hw : (word (iv m 0) (i 0).val).toNat < 1024 := h _
  match a with
  | ⟨0, _⟩ => show ((word (iv m 0) (i 0).val).toNat + 1) * 1 ≤ 1024; omega
  | ⟨1, _⟩ => show (0 + 1) * 180 ≤ 180; omega
  | ⟨2, _⟩ => show (0 + 1) * 128 ≤ 128; omega

variable (hO : Ok m)

/-- The call's result array: row `n` is the label row that entry `n` names. -/
def rows (x : IVec S64x3 32) (l : Vec F S1024x23040 .f32) : Vec F S192x180x128 .f32 := fun y =>
  l (ix2 (⟨(word x (y 0).val).toNat % 1024, Nat.mod_lt _ (by decide)⟩ : Fin 1024) (⟨(y 1).val * 128 + (y 2).val, by
    have h1 : (y 1).val < 180 := (y 1).isLt
    have h2 : (y 2).val < 128 := (y 2).isLt
    omega⟩ : Fin 23040))

theorem outs_eq (c : Dev nD) (t : Fin (cfgM m hO).N) : outsAt0 m hO c t = iblk m hO c 0 t := by
  unfold outsAt0
  frame_out [out0_A_1, kernelRun0_A, k0_pay1]
  exact (shapeCast_id (s := S1x180x128) _ _).trans ((hs0_0 m hO t).read_unread (iblk m hO c 0 t))

theorem coords_val : ∀ t : Fin grid0.N, (grid0.coords t 0).val = t.val := by decide +kernel
theorem out_index : ∀ t : Fin grid0.N, cc0_transform_1 (grid0.coords t) = ![t.val, 0, 0] := by decide +kernel

theorem win0_index (t : Fin (cfgM m hO).N) : ((cfgM m hO).win 0).index t = ![(word (iv m 0) t.val).toNat, 0, 0] := by
  refine (index_at m (grid0.coords t)).trans ?_
  rw [coords_val]
theorem win1_index (t : Fin (cfgM m hO).N) : ((cfgM m hO).win 1).index t = ![t.val, 0, 0] := out_index t

theorem iblk_at (h : Names (iv m 0)) (c : Dev nD) (t : Fin (cfgM m hO).N) (y : S1x180x128.Idx) : iblk m hO c 0 t y
    = V m c main_v1 (ix3 (⟨(word (iv m 0) t.val).toNat % 1024, Nat.mod_lt _ (by decide)⟩ : Fin 1024) (y 1) (y 2)) := by
  have hw : (word (iv m 0) t.val).toNat < 1024 := h _
  blk_ext [iblk, win0_index m hO t]

theorem final (h : Names (iv m 0)) (c : Dev nD) : (dats m hO 0 c).arrAt 1 (cfgM m hO).N = rows (iv m 0) (lv m c) := by
  refine (dats m hO 0 c).arrAt_eq_of_emb 1 _ (fun t hf y => ?_) fun (i : S192x180x128.Idx) => ?_
  · rw [after0_1, outs_eq]
    refine (iblk_at m hO h c t (((cfgM m hO).win 1).xinj ((cfgM m hO).grid.coords t) y)).trans ?_
    rw [lab_at]
    unfold rows
    blk_simp [win1_index m hO t]
    rfl
  · have hN : (cfgM m hO).N = 192 := rfl
    have h0 : (i 0).val < 192 := (i 0).isLt
    have h1 : (i 1).val < 180 := (i 1).isLt
    have h2 : (i 2).val < 128 := (i 2).isLt
    let t : Fin (cfgM m hO).N := ⟨(i 0).val, hN.symm ▸ h0⟩
    refine ⟨t, flush0_1 (adm m hO) t, (((cfgM m hO).win 1).emb_mem_blk_iff t i rfl).mpr fun a => ?_⟩
    rw [win1_index m hO t]
    match a with
    | ⟨0, _⟩ => show (i 0).val * 1 ≤ (i 0).val ∧ (i 0).val < (i 0).val * 1 + 1; omega
    | ⟨1, _⟩ => show 0 * 180 ≤ (i 1).val ∧ (i 1).val < 0 * 180 + 180; omega
    | ⟨2, _⟩ => show 0 * 128 ≤ (i 2).val ∧ (i 2).val < 0 * 128 + 128; omega

/-- The program's result: the rows laid out as labels. -/
def result (c : Dev nD) : Vec F S64x135x512 .f32 := shapeCast S64x135x512 (rows (iv m 0) (lv m c)) shapeCasts_S192x180x128_S64x135x512

theorem tail (h : Names (iv m 0)) (c : Dev nD) :
    Pipeline.afterTail pcfgs (fun _ => adm m hO) (dats m hO) 0 (V0 m) [hostOps1] c main_v3 = result m c := by
  unfold Pipeline.afterTail
  rw [show List.flatten [hostOps1 (F := F)] = hostOps1 from rfl, StableHlo.after_cons, StableHlo.after_nil, StableHlo.reshape_result]
  have e := Pipeline.withArrays_arr (cfgM m hO).spec winFacts0.arr_inj c (V0 m c) (fun w => (dats m hO 0 c).arrAt w (cfgM m hO).N) 1
  rw [final m hO h c] at e
  exact congrArg (shapeCast S64x135x512 · shapeCasts_S192x180x128_S64x135x512) e

/-- Where every index names a row the program runs to its end with those rows as its result and its arguments unchanged. -/
theorem result_run (h : Names (iv m 0)) : θ_run defs (onTc (τ := τ) (main (F := F))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r hr c => ⟨((hr.1 c).2 main_v3 (show main_v3 ∈ Pipeline.restRefs sig spec0 by decide)).trans (tail m (ok_of_names m h) h c), hr.2 c⟩)
    (θ_run_and (run_main m ρ (ok_of_names m h)) (unchanged m ρ (ok_of_names m h)))

end Cert.PickIdeal.Body

end
-- ==== Proof.PickValue.lean ====
/- The reference of the copied label rows, read at an index. -/
module

public import proofs.«01_k».proof.Proof.PickBody
public import proofs.«01_k».proof.Proof.Gen.PickRefIdeal
public import Idealize.ShloMosaic.Lib.StableHlo.RunRead
public import Idealize.ShloMosaic.Lib.Pointwise

@[expose] public section

noncomputable section

namespace Cert.PickRefIdeal.Value

open Cert.PickRefIdeal Cert.PickRefIdeal.Gen
open Idealize.ShloMosaic Idealize.ShloMosaic.TcCoe Idealize.ShloMosaic.Tactic

variable (m : (ℓ : Loc nD τ sig) → Buf (Elt Ideal) ℓ) (g : Dev nD → PrngReg)

abbrev ia (c : Dev nD) : IVec S64x3 32 := m ((c : Thread nD τ).loc main_arg0)
abbrev la (c : Dev nD) : FVec Ideal S1024x23040 .f32 := m ((c : Thread nD τ).loc main_arg1)

/-- The label rows with the rank of the gather's result: one row for each index. -/
def named (x : IVec S64x3 32) (l : FVec Ideal S1024x23040 .f32) : FVec Ideal S64x3x23040 .f32 := fun y =>
  l (ix2 (⟨(x (ix2 (y 0) (y 1))).toNat % 1024, Nat.mod_lt _ (by decide)⟩ : Fin 1024) (y 2))

/-- A gather of whole rows reads, at a start index within the operand, the row it names. -/
theorem gather_row (l : FVec Ideal S1024x23040 .f32) (s : IVec S64x3x1 32) (y : S64x3x23040.Idx) (w : BitVec 32)
    (hs : s (ix3 (y 0) (y 1) (0 : Fin 1)) = w) (hw : w.toNat < 1024) :
    Host.gather gather_S1024x23040_S64x3x1_S64x3x23040_2_0_n_n_0_2_123040 l s y
      = l (ix2 (⟨w.toNat % 1024, Nat.mod_lt _ (by decide)⟩ : Fin 1024) (y 2)) := by
  have hi : w.toInt.toNat = w.toNat := by rw [BitVec.toInt]; omega
  refine congrArg l (funext fun a => Fin.ext ?_)
  show GatherDims.start _ y s a + GatherDims.batchCoord _ y a + GatherDims.offCoord _ y a = _
  rw [GatherDims.batchCoord_eq_zero _ _ _ List.not_mem_nil]
  match a with
  | ⟨0, _⟩ =>
    have he : GatherDims.start gather_S1024x23040_S64x3x1_S64x3x23040_2_0_n_n_0_2_123040 y s 0 = min (s (ix3 (y 0) (y 1) (0 : Fin 1))).toInt.toNat 1023 := by
      unfold GatherDims.start
      rw [dif_pos (by decide)]
      refine congrArg (fun k => min (s k).toInt.toNat 1023) (funext fun b => Fin.ext ?_)
      match b with
      | ⟨0, _⟩ => rfl
      | ⟨1, _⟩ => rfl
      | ⟨2, _⟩ => rfl
    have ho : GatherDims.offCoord gather_S1024x23040_S64x3x1_S64x3x23040_2_0_n_n_0_2_123040 y 0 = 0 := GatherDims.offCoord_eq_zero _ _ _ (by decide)
    refine (congrArg₂ (fun p q => p + 0 + q) he ho).trans ?_
    rw [hs, hi]
    show min w.toNat 1023 + 0 + 0 = w.toNat % 1024
    omega
  | ⟨1, _⟩ =>
    have he : GatherDims.start gather_S1024x23040_S64x3x1_S64x3x23040_2_0_n_n_0_2_123040 y s 1 = 0 := by
      unfold GatherDims.start
      rw [dif_neg (by decide)]
    have ho : GatherDims.offCoord gather_S1024x23040_S64x3x1_S64x3x23040_2_0_n_n_0_2_123040 y 1 = (y 2).val := by
      unfold GatherDims.offCoord
      rw [dif_pos (by decide)]
      rfl
    exact (congrArg₂ (fun p q => p + 0 + q) he ho).trans (Nat.zero_add _)

/-- The index as the reference reads it: a negative one counts from the end. -/
def wrapped (x : IVec S64x3 32) : IVec S64x3 32 :=
  select (cmpi .slt x (broadcastInDim S64x3 ![] bcast_S_S64x3 (constantI S_ 32 0#32))) (addi x (broadcastInDim S64x3 ![] bcast_S_S64x3 (constantI S_ 32 1024#32))) x

/-- The indices with a trailing axis, and whether each names a row. -/
def starts (x : IVec S64x3 32) : IVec S64x3x1 32 := broadcastInDim S64x3x1 ![0, 1] bcast_S64x3_S64x3x1_0_1 (wrapped x)
def inside (x : IVec S64x3 32) : IVec S64x3 1 :=
  Host.reduce IntOp.andi (andi (cmpi .sge (starts x) (broadcastInDim S64x3x1 ![] bcast_S_S64x3x1 (constantI S_ 32 0#32)))
    (cmpi .sle (starts x) (broadcastInDim S64x3x1 ![0, 1, 2] bcast_S1x1x1_S64x3x1_0_1_2 (broadcastInDim S1x1x1 ![2] bcast_S1_S1x1x1_2 (constantI S1 32 1023#32)))))
    (constantI S_ 1 1#1) reducesTo_S64x3x1_S64x3_d2 h_S_

/-- The rows taken: where an index names no row, a fixed value. -/
def taken (x : IVec S64x3 32) (l : FVec Ideal S1024x23040 .f32) : FVec Ideal S64x3x23040 .f32 :=
  select (broadcastInDim S64x3x23040 ![0, 1] bcast_S64x3_S64x3x23040_0_1 (inside x))
    (Host.gather gather_S1024x23040_S64x3x1_S64x3x23040_2_0_n_n_0_2_123040 l (starts x))
    (broadcastInDim S64x3x23040 ![] bcast_S_S64x3x23040 (constant S_ .f32 0x7FC00000#32))

theorem run : θ_run (defs (F := Ideal)) (onTc (τ := τ) (main (F := Ideal))) ⟨m, fun _ => 0, g⟩ (fun r => ∀ c : Dev nD,
      r.2.mem ((c.tc : Thread nD τ).loc main_v1) = shapeCast S64x135x512 (taken (ia m c) (la m c)) shapeCasts_S64x3x23040_S64x135x512
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  rfl

theorem wrapped_at {x : IVec S64x3 32} (h : Cert.PickIdeal.Body.Names x) (j : S64x3.Idx) : wrapped x j = x j := by
  have hj := h j
  show Scalar.select (IntOp.cmpi .slt (x j) 0#32) _ (x j) = x j
  have e : IntOp.cmpi .slt (x j) 0#32 = 0#1 := by
    have hs : (x j).slt 0#32 = false := by
      simp only [BitVec.slt, BitVec.toInt, BitVec.toNat_ofNat, decide_eq_false_iff_not]
      omega
    show BitVec.ofBool ((x j).slt 0#32) = 0#1
    rw [hs]
    rfl
  rw [e]
  rfl

/-- A conjunction of ones, from one, is one. -/
theorem foldl_andi {β : Type} (l : List β) (f : β → BitVec 1) (hf : ∀ b, f b = 1#1) : l.foldl (fun r b => IntOp.andi r (f b)) 1#1 = 1#1 := by
  induction l with
  | nil => rfl
  | cons b l ih =>
    rw [List.foldl_cons, hf b]
    exact ih

theorem starts_at {x : IVec S64x3 32} (h : Cert.PickIdeal.Body.Names x) (k : S64x3x1.Idx) : starts x k = x (ix2 (k 0) (k 1)) := by
  idx_vars k
  unfold starts
  pointwise [wrapped_at h]

theorem inside_at {x : IVec S64x3 32} (h : Cert.PickIdeal.Body.Names x) (j : S64x3.Idx) : inside x j = 1#1 := by
  refine foldl_andi _ _ fun n => ?_
  generalize S64x3x1.rowMajor.symm n = k
  have hk := h (ix2 (k 0) (k 1))
  show IntOp.andi (IntOp.cmpi .sge (starts x k) 0#32) (IntOp.cmpi .sle (starts x k) 1023#32) = 1#1
  rw [starts_at h]
  generalize x (ix2 (k 0) (k 1)) = w at hk
  have h0 : IntOp.cmpi .sge w 0#32 = 1#1 := by
    simp only [IntOp.cmpi, StableHlo.Predicate.ofBool_eq_one_iff, BitVec.sle, decide_eq_true_eq, BitVec.toInt, BitVec.toNat_ofNat]
    omega
  have h1 : IntOp.cmpi .sle w 1023#32 = 1#1 := by
    simp only [IntOp.cmpi, StableHlo.Predicate.ofBool_eq_one_iff, BitVec.sle, decide_eq_true_eq, BitVec.toInt, BitVec.toNat_ofNat]
    omega
  rw [h0, h1]
  rfl

/-- Where every index names a row, the rows taken are the rows named. -/
theorem taken_eq {x : IVec S64x3 32} (h : Cert.PickIdeal.Body.Names x) (l : FVec Ideal S1024x23040 .f32) : taken x l = named x l := by
  funext y
  have hb : broadcastInDim S64x3x23040 ![0, 1] bcast_S64x3_S64x3x23040_0_1 (inside x) y = 1#1 := inside_at h _
  show Scalar.select (broadcastInDim S64x3x23040 ![0, 1] bcast_S64x3_S64x3x23040_0_1 (inside x) y) _ _ = _
  rw [hb]
  exact gather_row l (starts x) y _ (starts_at h _) (h _)

/-- The rows as the kernel lays them out, read as labels, are the rows as the reference lays them out. -/
theorem layouts (x : IVec S64x3 32) (l : FVec Ideal S1024x23040 .f32) :
    shapeCast S64x135x512 (Cert.PickIdeal.Body.rows (F := Ideal) x l) Cert.PickIdeal.Gen.facts.toFacts₀.shapeCasts_S192x180x128_S64x135x512
      = shapeCast S64x135x512 (named x l) shapeCasts_S64x3x23040_S64x135x512 := by
  funext j
  idx_vars j
  unfold Cert.PickIdeal.Body.rows named Cert.PickIdeal.Body.word
  pointwise []
  have h0 : (⟨(j0.val * 3 + j1.val / 45) / 3 % 64, Nat.mod_lt _ (by decide)⟩ : Fin 64) = j0 := Fin.ext (by
    show (j0.val * 3 + j1.val / 45) / 3 % 64 = j0.val
    omega)
  have h1 : (⟨(j0.val * 3 + j1.val / 45) % 3, Nat.mod_lt _ (by decide)⟩ : Fin 3) = ⟨j1.val / 45, by omega⟩ := Fin.ext (by
    show (j0.val * 3 + j1.val / 45) % 3 = j1.val / 45
    omega)
  have h2 : (⟨(j1.val % 45 * 4 + j2.val / 128) * 128 + j2.val % 128, by omega⟩ : Fin 23040) = ⟨j1.val % 45 * 512 + j2.val, by omega⟩ := Fin.ext (by
    show (j1.val % 45 * 4 + j2.val / 128) * 128 + j2.val % 128 = j1.val % 45 * 512 + j2.val
    omega)
  exact congrArg l (congrArg₂ (fun (a : Fin 1024) (b : Fin 23040) => ix2 a b)
    (Fin.ext (congrArg (fun k => (x k).toNat % 1024) (congrArg₂ (fun (a : Fin 64) (b : Fin 3) => ix2 a b) h0 h1))) h2)

end Cert.PickRefIdeal.Value

end
-- ==== Proof.BitsPick.lean ====
/- The kernel program of the copied rows, before its idealization: under the precondition each word of its table names a row. -/
module

public import proofs.«01_k».proof.Defs
public import proofs.«01_k».proof.Proof.Gen.Pick.Frame
public import proofs.«01_k».proof.Proof.Gen.Pre_idx_names_labels
public import Idealize.ShloMosaic.Lib.Pointwise
public import Idealize.ShloMosaic.Lib.StableHlo.Predicate

@[expose] public section

noncomputable section

namespace Cert.Pick.Body

open Cert.Pick Cert.Pick.Gen
open Idealize.ShloMosaic Idealize.ShloMosaic.TcCoe Idealize.ShloMosaic.Tactic

variable {F : FTy → Type} [FloatOps F]

variable (m : (ℓ : Loc nD τ sig) → Buf (Elt F) ℓ) (ρ : Dev nD → PrngReg)

/-- The indices as launched. -/
abbrev iv (c : Dev nD) : IVec S64x3 32 := m ((c : Thread nD τ).loc main_arg0)

/-- Entry `n` of the index array in row-major order. -/
def word (x : IVec S64x3 32) (n : ℕ) : BitVec 32 := x (ix2 (⟨n / 3 % 64, Nat.mod_lt _ (by decide)⟩ : Fin 64) (⟨n % 3, Nat.mod_lt _ (by decide)⟩ : Fin 3))

theorem tbl_at (y : S192.Idx) : tbl m 0 y = word (iv m 0) (y 0).val := by
  have h : tbl m 0 = shapeCast S192 (iv m 0) shapeCasts_S64x3_S192 := by
    show V m 0 main_v0 = _
    unfold V V0
    rfl
  rw [h]
  idx_vars y
  unfold word
  pointwise []
  exact congrArg (fun a => iv m 0 (ix2 a _)) (Fin.ext (by
    show y0.val / 3 = y0.val / 3 % 64
    omega))

/-- Every entry of the index array names a row. -/
def Names (x : IVec S64x3 32) : Prop := ∀ j, (x j).toNat < 1024

theorem names_of_pre (x : IVec S64x3 32) (l : FVec F S1024x23040 .f32)
    (h : Cert.Pre_idx_names_labels.fn (F := F) x l = fun _ => 1#1) : Names x := by
  intro j
  have e := congrFun h j
  simp only [Cert.Pre_idx_names_labels.fn, andi, cmpi, broadcastInDim, constantI] at e
  generalize x j = w at e
  have andi_one : ∀ a b : BitVec 1, IntOp.andi a b = 1#1 → a = 1#1 ∧ b = 1#1 := by decide
  obtain ⟨hge, hlt⟩ := andi_one _ _ e
  simp only [IntOp.cmpi, StableHlo.Predicate.ofBool_eq_one_iff, BitVec.sle, BitVec.slt, decide_eq_true_eq, BitVec.toInt, BitVec.toNat_ofNat] at hge hlt
  omega

theorem index_at (i : grid0.Coords) :
    cc0_transform_0 k0_off1_inb numel1_S1 (tbl m) i = ![(word (iv m 0) (i 0).val).toNat, 0, 0] := by
  have hi : (i 0).val < 192 := (i 0).isLt
  unfold cc0_transform_0
  dsimp only
  have e : (tbl m).at 0 (Rect.unit (s := S192) ![(Scalar.indexCast (BitVec.ofNat 32 (i 0).val)).toNat] S1.size (k0_off1_inb i)) numel1_S1 = word (iv m 0) (i 0).val := by
    refine (tbl_at m _).trans (congrArg (word (iv m 0)) ?_)
    show (BitVec.ofNat 32 (i 0).val).toNat + 1 * 0 = _
    rw [BitVec.toNat_ofNat]
    omega
  rw [e]
  rfl

theorem ok_of_names (h : Names (iv m 0)) : Ok m := by
  intro i
  refine ⟨fun a => ?_, Or.inl rfl⟩
  rw [index_at]
  have hw : (word (iv m 0) (i 0).val).toNat < 1024 := h _
  match a with
  | ⟨0, _⟩ => show ((word (iv m 0) (i 0).val).toNat + 1) * 1 ≤ 1024; omega
  | ⟨1, _⟩ => show (0 + 1) * 180 ≤ 180; omega
  | ⟨2, _⟩ => show (0 + 1) * 128 ≤ 128; omega

end Cert.Pick.Body

end
-- ==== Proof.PickClaims.lean ====
/- The claims about the copied label rows. -/
module

public import proofs.«01_k».proof.Defs
public import proofs.«01_k».proof.Proof.PickValue
public import proofs.«01_k».proof.Proof.BitsPick
public import Idealize.ShloMosaic.Lib.Quiescent
public import Idealize.ShloMosaic.Adequacy
public import Idealize.ShloMosaic.Init

@[expose] public section

set_option maxRecDepth 16384

noncomputable section

namespace Cert.PickClaims

open Idealize.ShloMosaic Idealize.ShloMosaic.TcCoe Idealize.ShloMosaic.Tactic Idealize.SL.Sem Cert.Pick

theorem frame_p : Cert.quiescent_Pick := fun m g h =>
  Cert.Pick.Gen.frame m g (Cert.Pick.Body.ok_of_names m (Cert.Pick.Body.names_of_pre _ _ (h 0)))
theorem frame_pi : Cert.quiescent_PickIdeal := fun m g h =>
  Cert.PickIdeal.Gen.frame m g (Cert.PickIdeal.Body.ok_of_names m (Cert.PickIdeal.Body.names_of_pre _ _ (h 0)))
theorem frame_ri : Cert.quiescent_PickRefIdeal := fun m g _ =>
  (θ_run Cert.PickRefIdeal.defs _ _).mono (fun r h => ⟨fun c => (h c).2, sem_eq_zero_of_no_sems (by decide) r.2⟩)
    (Cert.PickRefIdeal.Value.run m g)
theorem frame_ri_pre : Cert.quiescent_PickRefIdeal_pre_idx_names_labels := fun m g _ => frame_ri m g trivial

theorem preserves : Cert.preserves_Pick_PickIdeal := trivial

theorem algebraic : Cert.algebraic_PickIdeal_PickRefIdeal := by
  intro m g m' g' hpre hagree
  have hn : Cert.PickIdeal.Body.Names (Cert.PickIdeal.Body.iv m 0) := Cert.PickIdeal.Body.names_of_pre _ _ (hpre 0)
  refine ⟨_, Cert.PickIdeal.Body.result_run m g hn, ?_⟩
  refine (θ_run Cert.PickRefIdeal.defs _ _).mono (fun r h c => ⟨(h c).1.trans ?_, (h c).2⟩) (Cert.PickRefIdeal.Value.run m' g')
  obtain ⟨h0, h1⟩ := hagree c
  obtain rfl : c = 0 := Subsingleton.elim _ _
  have hi : Cert.PickRefIdeal.Value.ia m' 0 = Cert.PickIdeal.Body.iv m 0 := h0
  have hl : Cert.PickRefIdeal.Value.la m' 0 = Cert.PickIdeal.Body.lv m 0 := h1
  rw [hi, hl, Cert.PickRefIdeal.Value.taken_eq hn]
  exact (Cert.PickRefIdeal.Value.layouts _ _).symm

end Cert.PickClaims

end
-- ==== Proof.lean ====
module

public import proofs.«01_k».proof.Defs
public import proofs.«01_k».proof.Proof.Claims
public import proofs.«01_k».proof.Proof.RankClaims
public import proofs.«01_k».proof.Proof.PickClaims
public import proofs.«01_k».proof.Proof.Gen.Pick
public import proofs.«01_k».proof.Proof.Gen.Pick.Frame
public import proofs.«01_k».proof.Proof.Gen.PickIdeal
public import proofs.«01_k».proof.Proof.Gen.PickIdeal.Frame
public import proofs.«01_k».proof.Proof.Gen.PickRefIdeal
public import proofs.«01_k».proof.Proof.Gen.Pre_idx_names_labels
public import proofs.«01_k».proof.Proof.Gen.Rank
public import proofs.«01_k».proof.Proof.Gen.Rank.Skeleton
public import proofs.«01_k».proof.Proof.Gen.Rank.Launch
public import proofs.«01_k».proof.Proof.Gen.Rank.Points
public import proofs.«01_k».proof.Proof.Gen.Rank.Frame
public import proofs.«01_k».proof.Proof.Gen.RankIdeal
public import proofs.«01_k».proof.Proof.Gen.RankIdeal.Skeleton
public import proofs.«01_k».proof.Proof.Gen.RankIdeal.Launch
public import proofs.«01_k».proof.Proof.Gen.RankIdeal.Points
public import proofs.«01_k».proof.Proof.Gen.RankIdeal.Frame
public import proofs.«01_k».proof.Proof.Gen.RankRefIdeal
public import proofs.«01_k».proof.Proof.Gen.Encode
public import proofs.«01_k».proof.Proof.Gen.Encode.Skeleton
public import proofs.«01_k».proof.Proof.Gen.Encode.Loops
public import proofs.«01_k».proof.Proof.Gen.Encode.Launch
public import proofs.«01_k».proof.Proof.Gen.Encode.Regions
public import proofs.«01_k».proof.Proof.Gen.Encode.Points
public import proofs.«01_k».proof.Proof.Gen.EncodeIdeal
public import proofs.«01_k».proof.Proof.Gen.EncodeIdeal.Skeleton
public import proofs.«01_k».proof.Proof.Gen.EncodeIdeal.Loops
public import proofs.«01_k».proof.Proof.Gen.EncodeIdeal.Launch
public import proofs.«01_k».proof.Proof.Gen.EncodeIdeal.Regions
public import proofs.«01_k».proof.Proof.Gen.EncodeIdeal.Points
public import proofs.«01_k».proof.Proof.Gen.EncodeRefIdeal
public import Idealize.ShloMosaic.Adequacy
public import Idealize.ShloMosaic.Init

@[expose] public section

noncomputable section

namespace Cert.Proof

open Idealize.ShloMosaic Idealize.SL.Sem Cert.Encode

theorem claim : Cert.Claim := ⟨Cert.Encode.Gen.facts, Cert.EncodeIdeal.Gen.facts, Cert.EncodeRefIdeal.Gen.facts,
  Cert.Rank.Gen.facts, Cert.RankIdeal.Gen.facts, Cert.RankRefIdeal.Gen.facts,
  Cert.Pick.Gen.facts, Cert.PickIdeal.Gen.facts, Cert.PickRefIdeal.Gen.facts, Cert.Pre_idx_names_labels.Gen.facts,
  Cert.EncodeClaims.frame_p, Cert.EncodeClaims.frame_pi, Cert.EncodeClaims.frame_ri,
  Cert.RankClaims.frame_p, Cert.RankClaims.frame_pi, Cert.RankClaims.frame_ri,
  Cert.PickClaims.frame_p, Cert.PickClaims.frame_pi, Cert.PickClaims.frame_ri, Cert.PickClaims.frame_ri_pre,
  Cert.EncodeClaims.preserves, Cert.EncodeClaims.algebraic, Cert.RankClaims.preserves, Cert.RankClaims.algebraic,
  Cert.PickClaims.preserves, Cert.PickClaims.algebraic⟩

end Cert.Proof

end
